-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_inputs_in_range [hPre_inputs_in_range : Cert.Pre_inputs_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_in_range [hPre_inputs_in_range : Cert.Pre_inputs_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_inputs_in_range [hKernelIdeal : Cert.KernelIdeal.Facts] [hPre_inputs_in_range : Cert.Pre_inputs_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_inputs_in_range [hReferenceIdeal : Cert.ReferenceIdeal.Facts] [hPre_inputs_in_range : Cert.Pre_inputs_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  IdealRules.named_const.Statement Cert.KernelIdeal.κ "tenth" .f32 0x3DCCCCCD#32 ((1 / 10 : ℝ) : EReal)

def algebraic_KernelIdeal_ReferenceIdeal_pre_inputs_in_range [hKernelIdeal : Cert.KernelIdeal.Facts] [hReferenceIdeal : Cert.ReferenceIdeal.Facts] [hPre_inputs_in_range : Cert.Pre_inputs_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_inputs_in_range : Cert.Pre_inputs_in_range.Facts),
    quiescent_Kernel (hKernel := hKernel)
    ∧ quiescent_KernelIdeal (hKernelIdeal := hKernelIdeal)
    ∧ quiescent_KernelIdeal_pre_inputs_in_range (hKernelIdeal := hKernelIdeal) (hPre_inputs_in_range := hPre_inputs_in_range)
    ∧ quiescent_ReferenceIdeal (hReferenceIdeal := hReferenceIdeal)
    ∧ quiescent_ReferenceIdeal_pre_inputs_in_range (hReferenceIdeal := hReferenceIdeal) (hPre_inputs_in_range := hPre_inputs_in_range)
    ∧ preserves_Kernel_KernelIdeal
    ∧ algebraic_KernelIdeal_ReferenceIdeal_pre_inputs_in_range (hKernelIdeal := hKernelIdeal) (hReferenceIdeal := hReferenceIdeal) (hPre_inputs_in_range := hPre_inputs_in_range)
-- ==== Pre_inputs_in_range.lean ====
abbrev S16384x10 : Shape := ⟨2, ![16384, 10]⟩
abbrev S22x64 : Shape := ⟨2, ![22, 64]⟩
abbrev S10x64 : Shape := ⟨2, ![10, 64]⟩
abbrev S256x640 : Shape := ⟨2, ![256, 640]⟩
abbrev S256 : Shape := ⟨1, ![256]⟩
abbrev S128x256 : Shape := ⟨2, ![128, 256]⟩
abbrev S128 : Shape := ⟨1, ![128]⟩
abbrev S_ : Shape := ⟨0, ![]⟩

class Facts : Prop where
  bcast_S_S16384x10 : S_.BroadcastsInDim S16384x10 (![] : Fin 0 → Fin S16384x10.rank)
  reducesTo_S16384x10_S_d0_1 : S16384x10.ReducesTo [0, 1] S_
  h_S_ : 0 < S_.numel
  bcast_S_S256 : S_.BroadcastsInDim S256 (![] : Fin 0 → Fin S256.rank)
  reducesTo_S256_S_d0 : S256.ReducesTo [0] S_
  bcast_S_S128 : S_.BroadcastsInDim S128 (![] : Fin 0 → Fin S128.rank)
  reducesTo_S128_S_d0 : S128.ReducesTo [0] S_

variable [Facts]

def fn_part1 {F : FTy → Type} [FloatOps F] (main_arg10 : FVec F S128 .f32) (main_v5 : IVec S_ 1) (main_v12 : IVec S_ 1) (main_v14 : IVec S128 1) (main_c_6 : IVec S_ 1) : IVec S_ 1 :=
  let main_v15 : IVec S_ 1 := (fun x v => Host.reduce IntOp.andi x v reducesTo_S128_S_d0 h_S_) main_v14 main_c_6
  let main_cst_7 : FVec F S_ .f32 := constant S_ .f32 0x00000000#32
  let main_v16 : FVec F S128 .f32 := broadcastInDim S128 ![] bcast_S_S128 main_cst_7
  let main_v17 : IVec S128 1 := cmpf .oeq main_arg10 main_v16
  let main_c_8 : IVec S_ 1 := constantI S_ 1 1#1
  let main_v18 : IVec S_ 1 := (fun x v => Host.reduce IntOp.andi x v reducesTo_S128_S_d0 h_S_) main_v17 main_c_8
  let main_v19 : IVec S_ 1 := andi main_v15 main_v18
  let main_v20 : IVec S_ 1 := andi main_v5 main_v12
  let main_v21 : IVec S_ 1 := andi main_v20 main_v19
  main_v21

def fn {F : FTy → Type} [FloatOps F] (main_arg0 : IVec S16384x10 32) (main_arg1 : FVec F S22x64 .f32) (main_arg2 : FVec F S10x64 .f32) (main_arg3 : FVec F S256x640 .f32) (main_arg4 : FVec F S256 .f32) (main_arg5 : FVec F S256 .f32) (main_arg6 : FVec F S256 .f32) (main_arg7 : FVec F S128x256 .f32) (main_arg8 : FVec F S128 .f32) (main_arg9 : FVec F S128 .f32) (main_arg10 : FVec F S128 .f32) : IVec S_ 1 :=
  let main_c : IVec S_ 32 := constantI S_ 32 0#32
  let main_v0 : IVec S16384x10 32 := broadcastInDim S16384x10 ![] bcast_S_S16384x10 main_c
  let main_v1 : IVec S16384x10 1 := cmpi .sge main_arg0 main_v0
  let main_c_0 : IVec S_ 32 := constantI S_ 32 22#32
  let main_v2 : IVec S16384x10 32 := broadcastInDim S16384x10 ![] bcast_S_S16384x10 main_c_0
  let main_v3 : IVec S16384x10 1 := cmpi .slt main_arg0 main_v2
  let main_v4 : IVec S16384x10 1 := andi main_v1 main_v3
  let main_c_1 : IVec S_ 1 := constantI S_ 1 1#1
  let main_v5 : IVec S_ 1 := (fun x v => Host.reduce IntOp.andi x v reducesTo_S16384x10_S_d0_1 h_S_) main_v4 main_c_1
  let main_cst : FVec F S_ .f32 := constant S_ .f32 0x3F800000#32
  let main_v6 : FVec F S256 .f32 := broadcastInDim S256 ![] bcast_S_S256 main_cst
  let main_v7 : IVec S256 1 := cmpf .oeq main_arg5 main_v6
  let main_c_2 : IVec S_ 1 := constantI S_ 1 1#1
  let main_v8 : IVec S_ 1 := (fun x v => Host.reduce IntOp.andi x v reducesTo_S256_S_d0 h_S_) main_v7 main_c_2
  let main_cst_3 : FVec F S_ .f32 := constant S_ .f32 0x00000000#32
  let main_v9 : FVec F S256 .f32 := broadcastInDim S256 ![] bcast_S_S256 main_cst_3
  let main_v10 : IVec S256 1 := cmpf .oeq main_arg6 main_v9
  let main_c_4 : IVec S_ 1 := constantI S_ 1 1#1
  let main_v11 : IVec S_ 1 := (fun x v => Host.reduce IntOp.andi x v reducesTo_S256_S_d0 h_S_) main_v10 main_c_4
  let main_v12 : IVec S_ 1 := andi main_v8 main_v11
  let main_cst_5 : FVec F S_ .f32 := constant S_ .f32 0x3F800000#32
  let main_v13 : FVec F S128 .f32 := broadcastInDim S128 ![] bcast_S_S128 main_cst_5
  let main_v14 : IVec S128 1 := cmpf .oeq main_arg9 main_v13
  let main_c_6 : IVec S_ 1 := constantI S_ 1 1#1
  fn_part1 (F := F) main_arg10 main_v5 main_v12 main_v14 main_c_6
-- ==== Kernel.lean ====
abbrev S16384x10 : Shape := ⟨2, ![16384, 10]⟩
abbrev S22x64 : Shape := ⟨2, ![22, 64]⟩
abbrev S10x64 : Shape := ⟨2, ![10, 64]⟩
abbrev S256x640 : Shape := ⟨2, ![256, 640]⟩
abbrev S256 : Shape := ⟨1, ![256]⟩
abbrev S128x256 : Shape := ⟨2, ![128, 256]⟩
abbrev S128 : Shape := ⟨1, ![128]⟩
abbrev S10x16384 : Shape := ⟨2, ![10, 16384]⟩
abbrev S1x256 : Shape := ⟨2, ![1, 256]⟩
abbrev S1x128 : Shape := ⟨2, ![1, 128]⟩
abbrev S16384x128 : Shape := ⟨2, ![16384, 128]⟩
abbrev S10x8192 : Shape := ⟨2, ![10, 8192]⟩
abbrev S8192x128 : Shape := ⟨2, ![8192, 128]⟩
abbrev S256x256 : Shape := ⟨2, ![256, 256]⟩
abbrev S16x256 : Shape := ⟨2, ![16, 256]⟩
abbrev S1x64 : Shape := ⟨2, ![1, 64]⟩
abbrev S256x64 : Shape := ⟨2, ![256, 64]⟩
abbrev S22x256 : Shape := ⟨2, ![22, 256]⟩
abbrev S36x256 : Shape := ⟨2, ![36, 256]⟩
abbrev S256x1 : Shape := ⟨2, ![256, 1]⟩
abbrev S1x1x128 : Shape := ⟨3, ![1, 1, 128]⟩
abbrev S1 : Shape := ⟨1, ![1]⟩
abbrev S1x1x1 : Shape := ⟨3, ![1, 1, 1]⟩
abbrev S10x256 : Shape := ⟨2, ![10, 256]⟩
abbrev S8192x256 : Shape := ⟨2, ![8192, 256]⟩
abbrev S8192 : Shape := ⟨1, ![8192]⟩
abbrev S8192x1 : Shape := ⟨2, ![8192, 1]⟩

abbrev nBuf : Space → Nat
  | .hbm => 15
  | .vmem => 15
  | .smem => 0
  | _ => 0

abbrev bufTy : (tb : Table) → Fin (tcTables nBuf tb) → BufTy
  | .hbm, ⟨0, _⟩ => ⟨S16384x10, .i32⟩
  | .hbm, ⟨1, _⟩ => ⟨S22x64, .f32⟩
  | .hbm, ⟨2, _⟩ => ⟨S10x64, .f32⟩
  | .hbm, ⟨3, _⟩ => ⟨S256x640, .f32⟩
  | .hbm, ⟨4, _⟩ => ⟨S256, .f32⟩
  | .hbm, ⟨5, _⟩ => ⟨S256, .f32⟩
  | .hbm, ⟨6, _⟩ => ⟨S256, .f32⟩
  | .hbm, ⟨7, _⟩ => ⟨S128x256, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S10x16384, .i32⟩
  | .hbm, ⟨12, _⟩ => ⟨S1x256, .f32⟩
  | .hbm, ⟨13, _⟩ => ⟨S1x128, .f32⟩
  | .hbm, ⟨14, _⟩ => ⟨S16384x128, .f32⟩
  | .local _ .vmem, ⟨0, _⟩ => ⟨S10x8192, .i32⟩
  | .local _ .vmem, ⟨1, _⟩ => ⟨S10x8192, .i32⟩
  | .local _ .vmem, ⟨2, _⟩ => ⟨S22x64, .f32⟩
  | .local _ .vmem, ⟨3, _⟩ => ⟨S10x64, .f32⟩
  | .local _ .vmem, ⟨4, _⟩ => ⟨S256x640, .f32⟩
  | .local _ .vmem, ⟨5, _⟩ => ⟨S1x256, .f32⟩
  | .local _ .vmem, ⟨6, _⟩ => ⟨S128x256, .f32⟩
  | .local _ .vmem, ⟨7, _⟩ => ⟨S1x128, .f32⟩
  | .local _ .vmem, ⟨8, _⟩ => ⟨S8192x128, .f32⟩
  | .local _ .vmem, ⟨9, _⟩ => ⟨S8192x128, .f32⟩
  | .local _ .vmem, ⟨10, _⟩ => ⟨S256x256, .f32⟩
  | .local _ .vmem, ⟨11, _⟩ => ⟨S16x256, .f32⟩
  | .local _ .vmem, ⟨12, _⟩ => ⟨S1x256, .f32⟩
  | .local _ .vmem, ⟨13, _⟩ => ⟨S128x256, .f32⟩
  | .local _ .vmem, ⟨14, _⟩ => ⟨S1x128, .f32⟩
  | _, _ => ⟨S16384x10, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_v0 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10x8192 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S22x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S10x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x640 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S8192x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== KernelIdeal.lean ====
variable {F : FTy → Type} [FloatOps F] [Named F]
def κ : String → Option EReal := fun
  | "tenth" => some ((1 / 10 : ℝ) : EReal)
  | _ => none
-- ==== ReferenceIdeal.lean ====
abbrev S16384x10 : Shape := ⟨2, ![16384, 10]⟩
abbrev S22x64 : Shape := ⟨2, ![22, 64]⟩
abbrev S10x64 : Shape := ⟨2, ![10, 64]⟩
abbrev S256x640 : Shape := ⟨2, ![256, 640]⟩
abbrev S256 : Shape := ⟨1, ![256]⟩
abbrev S128x256 : Shape := ⟨2, ![128, 256]⟩
abbrev S128 : Shape := ⟨1, ![128]⟩
abbrev S_ : Shape := ⟨0, ![]⟩
abbrev S16384x10x1 : Shape := ⟨3, ![16384, 10, 1]⟩
abbrev S1 : Shape := ⟨1, ![1]⟩
abbrev S1x1x1 : Shape := ⟨3, ![1, 1, 1]⟩
abbrev S16384x10x64 : Shape := ⟨3, ![16384, 10, 64]⟩
abbrev S10 : Shape := ⟨1, ![10]⟩
abbrev S10x1 : Shape := ⟨2, ![10, 1]⟩
abbrev S1x1 : Shape := ⟨2, ![1, 1]⟩
abbrev S1x10x64 : Shape := ⟨3, ![1, 10, 64]⟩
abbrev S16384x640 : Shape := ⟨2, ![16384, 640]⟩
abbrev S640x256 : Shape := ⟨2, ![640, 256]⟩
abbrev S16384x256 : Shape := ⟨2, ![16384, 256]⟩
abbrev S1x256 : Shape := ⟨2, ![1, 256]⟩
abbrev S16384 : Shape := ⟨1, ![16384]⟩
abbrev S16384x1 : Shape := ⟨2, ![16384, 1]⟩
abbrev S256x128 : Shape := ⟨2, ![256, 128]⟩
abbrev S16384x128 : Shape := ⟨2, ![16384, 128]⟩
abbrev S1x128 : Shape := ⟨2, ![1, 128]⟩

abbrev nBuf : Space → Nat
  | .hbm => 139
  | .vmem => 0
  | .smem => 0
  | _ => 0

abbrev hbmTy0_0 (i : Nat) : BufTy := match i % 128 with
  | 0 => ⟨S16384x10, .i32⟩
  | 1 => ⟨S22x64, .f32⟩
  | 2 => ⟨S10x64, .f32⟩
  | 3 => ⟨S256x640, .f32⟩
  | 4 => ⟨S256, .f32⟩
  | 5 => ⟨S256, .f32⟩
  | 6 => ⟨S256, .f32⟩
  | 7 => ⟨S128x256, .f32⟩
  | 8 => ⟨S128, .f32⟩
  | 9 => ⟨S128, .f32⟩
  | 10 => ⟨S128, .f32⟩
  | 11 => ⟨S_, .i32⟩
  | 12 => ⟨S16384x10, .i32⟩
  | 13 => ⟨S16384x10, .i1⟩
  | 14 => ⟨S_, .i32⟩
  | 15 => ⟨S16384x10, .i32⟩
  | 16 => ⟨S16384x10, .i32⟩
  | 17 => ⟨S16384x10, .i32⟩
  | 18 => ⟨S16384x10x1, .i32⟩
  | 19 => ⟨S1, .i32⟩
  | 20 => ⟨S_, .i32⟩
  | 21 => ⟨S16384x10x1, .i32⟩
  | 22 => ⟨S16384x10x1, .i1⟩
  | 23 => ⟨S1x1x1, .i32⟩
  | 24 => ⟨S16384x10x1, .i32⟩
  | 25 => ⟨S16384x10x1, .i1⟩
  | 26 => ⟨S16384x10x1, .i1⟩
  | 27 => ⟨S_, .i1⟩
  | 28 => ⟨S16384x10, .i1⟩
  | 29 => ⟨S16384x10x64, .f32⟩
  | 30 => ⟨S16384x10x64, .i1⟩
  | 31 => ⟨S_, .f32⟩
  | 32 => ⟨S16384x10x64, .f32⟩
  | 33 => ⟨S16384x10x64, .f32⟩
  | 34 => ⟨S10, .i32⟩
  | 35 => ⟨S_, .i32⟩
  | 36 => ⟨S10, .i32⟩
  | 37 => ⟨S10, .i1⟩
  | 38 => ⟨S_, .i32⟩
  | 39 => ⟨S10, .i32⟩
  | 40 => ⟨S10, .i32⟩
  | 41 => ⟨S10, .i32⟩
  | 42 => ⟨S10x1, .i32⟩
  | 43 => ⟨S1, .i32⟩
  | 44 => ⟨S_, .i32⟩
  | 45 => ⟨S10x1, .i32⟩
  | 46 => ⟨S10x1, .i1⟩
  | 47 => ⟨S1x1, .i32⟩
  | 48 => ⟨S10x1, .i32⟩
  | 49 => ⟨S10x1, .i1⟩
  | 50 => ⟨S10x1, .i1⟩
  | 51 => ⟨S_, .i1⟩
  | 52 => ⟨S10, .i1⟩
  | 53 => ⟨S10x64, .f32⟩
  | 54 => ⟨S10x64, .i1⟩
  | 55 => ⟨S_, .f32⟩
  | 56 => ⟨S10x64, .f32⟩
  | 57 => ⟨S10x64, .f32⟩
  | 58 => ⟨S1x10x64, .f32⟩
  | 59 => ⟨S16384x10x64, .f32⟩
  | 60 => ⟨S16384x10x64, .f32⟩
  | 61 => ⟨S16384x640, .f32⟩
  | 62 => ⟨S640x256, .f32⟩
  | 63 => ⟨S16384x256, .f32⟩
  | 64 => ⟨S1x256, .f32⟩
  | 65 => ⟨S16384x256, .f32⟩
  | 66 => ⟨S16384x256, .f32⟩
  | 67 => ⟨S_, .f32⟩
  | 68 => ⟨S16384, .f32⟩
  | 69 => ⟨S16384x1, .f32⟩
  | 70 => ⟨S_, .f32⟩
  | 71 => ⟨S16384x1, .f32⟩
  | 72 => ⟨S16384x1, .f32⟩
  | 73 => ⟨S16384x256, .f32⟩
  | 74 => ⟨S16384x256, .f32⟩
  | 75 => ⟨S16384x256, .f32⟩
  | 76 => ⟨S_, .f32⟩
  | 77 => ⟨S16384, .f32⟩
  | 78 => ⟨S16384x1, .f32⟩
  | 79 => ⟨S_, .f32⟩
  | 80 => ⟨S16384x1, .f32⟩
  | 81 => ⟨S16384x1, .f32⟩
  | 82 => ⟨S16384x256, .f32⟩
  | 83 => ⟨S16384x256, .f32⟩
  | 84 => ⟨S_, .f32⟩
  | 85 => ⟨S16384x1, .f32⟩
  | 86 => ⟨S16384x1, .f32⟩
  | 87 => ⟨S16384x1, .f32⟩
  | 88 => ⟨S16384x256, .f32⟩
  | 89 => ⟨S16384x256, .f32⟩
  | 90 => ⟨S1x256, .f32⟩
  | 91 => ⟨S16384x256, .f32⟩
  | 92 => ⟨S16384x256, .f32⟩
  | 93 => ⟨S1x256, .f32⟩
  | 94 => ⟨S16384x256, .f32⟩
  | 95 => ⟨S16384x256, .f32⟩
  | 96 => ⟨S_, .f32⟩
  | 97 => ⟨S16384x256, .f32⟩
  | 98 => ⟨S16384x256, .f32⟩
  | 99 => ⟨S16384x256, .f32⟩
  | 100 => ⟨S_, .f32⟩
  | 101 => ⟨S16384x256, .f32⟩
  | 102 => ⟨S16384x256, .f32⟩
  | 103 => ⟨S16384x256, .f32⟩
  | 104 => ⟨S16384x256, .f32⟩
  | 105 => ⟨S256x128, .f32⟩
  | 106 => ⟨S16384x128, .f32⟩
  | 107 => ⟨S1x128, .f32⟩
  | 108 => ⟨S16384x128, .f32⟩
  | 109 => ⟨S16384x128, .f32⟩
  | 110 => ⟨S_, .f32⟩
  | 111 => ⟨S16384, .f32⟩
  | 112 => ⟨S16384x1, .f32⟩
  | 113 => ⟨S_, .f32⟩
  | 114 => ⟨S16384x1, .f32⟩
  | 115 => ⟨S16384x1, .f32⟩
  | 116 => ⟨S16384x128, .f32⟩
  | 117 => ⟨S16384x128, .f32⟩
  | 118 => ⟨S16384x128, .f32⟩
  | 119 => ⟨S_, .f32⟩
  | 120 => ⟨S16384, .f32⟩
  | 121 => ⟨S16384x1, .f32⟩
  | 122 => ⟨S_, .f32⟩
  | 123 => ⟨S16384x1, .f32⟩
  | 124 => ⟨S16384x1, .f32⟩
  | 125 => ⟨S16384x128, .f32⟩
  | 126 => ⟨S16384x128, .f32⟩
  | 127 => ⟨S_, .f32⟩
  | _ => ⟨S16384x10, .i32⟩

abbrev hbmTy0_1 (i : Nat) : BufTy := match i % 128 with
  | 0 => ⟨S16384x1, .f32⟩
  | 1 => ⟨S16384x1, .f32⟩
  | 2 => ⟨S16384x1, .f32⟩
  | 3 => ⟨S16384x128, .f32⟩
  | 4 => ⟨S16384x128, .f32⟩
  | 5 => ⟨S1x128, .f32⟩
  | 6 => ⟨S16384x128, .f32⟩
  | 7 => ⟨S16384x128, .f32⟩
  | 8 => ⟨S1x128, .f32⟩
  | 9 => ⟨S16384x128, .f32⟩
  | 10 => ⟨S16384x128, .f32⟩
  | _ => ⟨S16384x10, .i32⟩

abbrev hbmTy (i : Nat) : BufTy := match i / 128 with
  | 0 => hbmTy0_0 i
  | 1 => hbmTy0_1 i
  | _ => ⟨S16384x10, .i32⟩

abbrev bufTy : (tb : Table) → Fin (tcTables nBuf tb) → BufTy
  | .hbm, ⟨i, _⟩ => hbmTy i
  | _, _ => ⟨S16384x10, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_call0_c : Ref sig .tc := ⟨.hbm, 11, rfl⟩
abbrev main_call0_v0 : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_c_1 : Ref sig .tc := ⟨.hbm, 19, rfl⟩
abbrev main_call0_c_2 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_3 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_call0_cst : Ref sig .tc := ⟨.hbm, 31, rfl⟩
abbrev main_call0_v15 : Ref sig .tc := ⟨.hbm, 32, rfl⟩
abbrev main_v0 : Ref sig .tc := ⟨.hbm, 33, rfl⟩
abbrev main_v1 : Ref sig .tc := ⟨.hbm, 34, rfl⟩
abbrev main_call1_c : Ref sig .tc := ⟨.hbm, 35, rfl⟩
abbrev main_call1_v0 : Ref sig .tc := ⟨.hbm, 36, rfl⟩
abbrev main_call1_v1 : Ref sig .tc := ⟨.hbm, 37, rfl⟩
abbrev main_call1_c_0 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_call1_v5 : Ref sig .tc := ⟨.hbm, 42, rfl⟩
abbrev main_call1_c_1 : Ref sig .tc := ⟨.hbm, 43, rfl⟩
abbrev main_call1_c_2 : Ref sig .tc := ⟨.hbm, 44, rfl⟩
abbrev main_call1_v6 : Ref sig .tc := ⟨.hbm, 45, rfl⟩
abbrev main_call1_v7 : Ref sig .tc := ⟨.hbm, 46, rfl⟩
abbrev main_call1_v8 : Ref sig .tc := ⟨.hbm, 47, rfl⟩
abbrev main_call1_v9 : Ref sig .tc := ⟨.hbm, 48, rfl⟩
abbrev main_call1_v10 : Ref sig .tc := ⟨.hbm, 49, rfl⟩
abbrev main_call1_v11 : Ref sig .tc := ⟨.hbm, 50, rfl⟩
abbrev main_call1_c_3 : Ref sig .tc := ⟨.hbm, 51, rfl⟩
abbrev main_call1_v12 : Ref sig .tc := ⟨.hbm, 52, rfl⟩
abbrev main_call1_v13 : Ref sig .tc := ⟨.hbm, 53, rfl⟩
abbrev main_call1_v14 : Ref sig .tc := ⟨.hbm, 54, rfl⟩
abbrev main_call1_cst : Ref sig .tc := ⟨.hbm, 55, rfl⟩
abbrev main_call1_v15 : Ref sig .tc := ⟨.hbm, 56, rfl⟩
abbrev main_v2 : Ref sig .tc := ⟨.hbm, 57, rfl⟩
abbrev main_v3 : Ref sig .tc := ⟨.hbm, 58, rfl⟩
abbrev main_v4 : Ref sig .tc := ⟨.hbm, 59, rfl⟩
abbrev main_v5 : Ref sig .tc := ⟨.hbm, 60, rfl⟩
abbrev main_v6 : Ref sig .tc := ⟨.hbm, 61, rfl⟩
abbrev main_v7 : Ref sig .tc := ⟨.hbm, 62, rfl⟩
abbrev main_v8 : Ref sig .tc := ⟨.hbm, 63, rfl⟩
abbrev main_v9 : Ref sig .tc := ⟨.hbm, 64, rfl⟩
abbrev main_v10 : Ref sig .tc := ⟨.hbm, 65, rfl⟩
abbrev main_v11 : Ref sig .tc := ⟨.hbm, 66, rfl⟩
abbrev main_cst : Ref sig .tc := ⟨.hbm, 67, rfl⟩
abbrev main_v12 : Ref sig .tc := ⟨.hbm, 68, rfl⟩
abbrev main_v13 : Ref sig .tc := ⟨.hbm, 69, rfl⟩
abbrev main_cst_0 : Ref sig .tc := ⟨.hbm, 70, rfl⟩
abbrev main_v14 : Ref sig .tc := ⟨.hbm, 71, rfl⟩
abbrev main_v15 : Ref sig .tc := ⟨.hbm, 72, rfl⟩
abbrev main_v16 : Ref sig .tc := ⟨.hbm, 73, rfl⟩
abbrev main_v17 : Ref sig .tc := ⟨.hbm, 74, rfl⟩
abbrev main_v18 : Ref sig .tc := ⟨.hbm, 75, rfl⟩
abbrev main_cst_1 : Ref sig .tc := ⟨.hbm, 76, rfl⟩
abbrev main_v19 : Ref sig .tc := ⟨.hbm, 77, rfl⟩
abbrev main_v20 : Ref sig .tc := ⟨.hbm, 78, rfl⟩
abbrev main_cst_2 : Ref sig .tc := ⟨.hbm, 79, rfl⟩
abbrev main_v21 : Ref sig .tc := ⟨.hbm, 80, rfl⟩
abbrev main_v22 : Ref sig .tc := ⟨.hbm, 81, rfl⟩
abbrev main_v23 : Ref sig .tc := ⟨.hbm, 82, rfl⟩
abbrev main_v24 : Ref sig .tc := ⟨.hbm, 83, rfl⟩
abbrev main_cst_3 : Ref sig .tc := ⟨.hbm, 84, rfl⟩
abbrev main_v25 : Ref sig .tc := ⟨.hbm, 85, rfl⟩
abbrev main_v26 : Ref sig .tc := ⟨.hbm, 86, rfl⟩
abbrev main_v27 : Ref sig .tc := ⟨.hbm, 87, rfl⟩
abbrev main_v28 : Ref sig .tc := ⟨.hbm, 88, rfl⟩
abbrev main_v29 : Ref sig .tc := ⟨.hbm, 89, rfl⟩
abbrev main_v30 : Ref sig .tc := ⟨.hbm, 90, rfl⟩
abbrev main_v31 : Ref sig .tc := ⟨.hbm, 91, rfl⟩
abbrev main_v32 : Ref sig .tc := ⟨.hbm, 92, rfl⟩
abbrev main_v33 : Ref sig .tc := ⟨.hbm, 93, rfl⟩
abbrev main_v34 : Ref sig .tc := ⟨.hbm, 94, rfl⟩
abbrev main_v35 : Ref sig .tc := ⟨.hbm, 95, rfl⟩
abbrev main_cst_4 : Ref sig .tc := ⟨.hbm, 96, rfl⟩
abbrev main_v36 : Ref sig .tc := ⟨.hbm, 97, rfl⟩
abbrev main_v37 : Ref sig .tc := ⟨.hbm, 98, rfl⟩
abbrev main_v38 : Ref sig .tc := ⟨.hbm, 99, rfl⟩
abbrev main_cst_5 : Ref sig .tc := ⟨.hbm, 100, rfl⟩
abbrev main_v39 : Ref sig .tc := ⟨.hbm, 101, rfl⟩
abbrev main_v40 : Ref sig .tc := ⟨.hbm, 102, rfl⟩
abbrev main_v41 : Ref sig .tc := ⟨.hbm, 103, rfl⟩
abbrev main_v42 : Ref sig .tc := ⟨.hbm, 104, rfl⟩
abbrev main_v43 : Ref sig .tc := ⟨.hbm, 105, rfl⟩
abbrev main_v44 : Ref sig .tc := ⟨.hbm, 106, rfl⟩
abbrev main_v45 : Ref sig .tc := ⟨.hbm, 107, rfl⟩
abbrev main_v46 : Ref sig .tc := ⟨.hbm, 108, rfl⟩
abbrev main_v47 : Ref sig .tc := ⟨.hbm, 109, rfl⟩
abbrev main_cst_6 : Ref sig .tc := ⟨.hbm, 110, rfl⟩
abbrev main_v48 : Ref sig .tc := ⟨.hbm, 111, rfl⟩
abbrev main_v49 : Ref sig .tc := ⟨.hbm, 112, rfl⟩
abbrev main_cst_7 : Ref sig .tc := ⟨.hbm, 113, rfl⟩
abbrev main_v50 : Ref sig .tc := ⟨.hbm, 114, rfl⟩
abbrev main_v51 : Ref sig .tc := ⟨.hbm, 115, rfl⟩
abbrev main_v52 : Ref sig .tc := ⟨.hbm, 116, rfl⟩
abbrev main_v53 : Ref sig .tc := ⟨.hbm, 117, rfl⟩
abbrev main_v54 : Ref sig .tc := ⟨.hbm, 118, rfl⟩
abbrev main_cst_8 : Ref sig .tc := ⟨.hbm, 119, rfl⟩
abbrev main_v55 : Ref sig .tc := ⟨.hbm, 120, rfl⟩
abbrev main_v56 : Ref sig .tc := ⟨.hbm, 121, rfl⟩
abbrev main_cst_9 : Ref sig .tc := ⟨.hbm, 122, rfl⟩
abbrev main_v57 : Ref sig .tc := ⟨.hbm, 123, rfl⟩
abbrev main_v58 : Ref sig .tc := ⟨.hbm, 124, rfl⟩
abbrev main_v59 : Ref sig .tc := ⟨.hbm, 125, rfl⟩
abbrev main_v60 : Ref sig .tc := ⟨.hbm, 126, rfl⟩
abbrev main_cst_10 : Ref sig .tc := ⟨.hbm, 127, rfl⟩
abbrev main_v61 : Ref sig .tc := ⟨.hbm, 128, rfl⟩
abbrev main_v62 : Ref sig .tc := ⟨.hbm, 129, rfl⟩
abbrev main_v63 : Ref sig .tc := ⟨.hbm, 130, rfl⟩
abbrev main_v64 : Ref sig .tc := ⟨.hbm, 131, rfl⟩
abbrev main_v65 : Ref sig .tc := ⟨.hbm, 132, rfl⟩
abbrev main_v66 : Ref sig .tc := ⟨.hbm, 133, rfl⟩
abbrev main_v67 : Ref sig .tc := ⟨.hbm, 134, rfl⟩
abbrev main_v68 : Ref sig .tc := ⟨.hbm, 135, rfl⟩
abbrev main_v69 : Ref sig .tc := ⟨.hbm, 136, rfl⟩
abbrev main_v70 : Ref sig .tc := ⟨.hbm, 137, rfl⟩
abbrev main_v71 : Ref sig .tc := ⟨.hbm, 138, rfl⟩

abbrev nD : Nat := 1
abbrev τ : Topo := Topo.v7x

variable {F : FTy → Type} [FloatOps F]
-- ==== Proof.Model.lean ====
/- The mathematics of the encoder over the real numbers: the reference's two linear layers and its activation,
   the kernel's, and that they agree up to centring. Nothing here mentions a program. -/
module

public import Idealize.ShloMosaic.Lib.Pointwise
public import Mathlib.MeasureTheory.Integral.IntervalIntegral.Basic

@[expose] public section

noncomputable section

namespace Cert.Model

open scoped BigOperators

/-- The layer norm's epsilon: the f32 nearest to 1e-5. -/
def eps : ℝ := 10995116 / 1099511627776

/-- The f32 nearest to the square root of one half. -/
def halfRoot : ℝ := 11863283 / 16777216

theorem eps_pos : 0 < eps := by unfold eps; norm_num

/-- The error function. -/
def erf (x : ℝ) : ℝ := 2 / √Real.pi * ∫ t in (0 : ℝ)..x, Real.exp (-(t ^ 2))

/-- The error function is odd. -/
theorem erf_neg (x : ℝ) : erf (-x) = -erf x := by
  unfold erf
  have h := intervalIntegral.integral_comp_neg (a := 0) (b := x) (fun t : ℝ => Real.exp (-(t ^ 2)))
  simp only [neg_sq, neg_zero] at h
  rw [h, intervalIntegral.integral_symm]
  ring

/-- The mean of a row. -/
def mean {n : ℕ} (x : Fin n → ℝ) : ℝ := (∑ k, x k) / n

/-- A row less its mean. -/
def cent {n : ℕ} (x : Fin n → ℝ) : Fin n → ℝ := fun k => x k - mean x

/-- The mean of a row's squares, plus epsilon. -/
def vareps {n : ℕ} (x : Fin n → ℝ) : ℝ := mean (fun k => x k * x k) + eps

theorem vareps_pos {n : ℕ} (x : Fin n → ℝ) : 0 < vareps x := by
  have : 0 ≤ mean (fun k => x k * x k) :=
    div_nonneg (Finset.sum_nonneg fun k _ => mul_self_nonneg _) (Nat.cast_nonneg _)
  have := eps_pos
  unfold vareps; linarith

/-- A centred row divided by the root of its variance plus epsilon. -/
def unit {n : ℕ} (x : Fin n → ℝ) : Fin n → ℝ := fun k => x k * (√(vareps x))⁻¹

/-- The exact GELU, as the reference writes it. -/
def gelu (x : ℝ) : ℝ := 1 / 2 * x * (1 - erf (-x * halfRoot))

variable (A : Fin 10 → Fin 256 → ℝ) (b : Fin 256 → ℝ) (W' : Fin 128 → Fin 256 → ℝ) (b' : Fin 128 → ℝ)

/-- The first linear layer: the ten positions' contributions and the bias. -/
def hidden : Fin 256 → ℝ := fun k => ∑ l, A l k + b k

/-- The second linear layer of the activations. -/
def second (x : Fin 256 → ℝ) : Fin 128 → ℝ := fun o => ∑ k, x k * W' o k + b' o

/-- The centred first layer as the kernel sums it: each position's contribution and a tenth of the bias, centred. -/
def picked : Fin 256 → ℝ := fun k => ∑ l, cent (fun k => A l k + b k * (1 / 10)) k

/-- The second layer's weights centred over the outputs and halved. -/
def halfW : Fin 128 → Fin 256 → ℝ := fun o k => cent (fun o' => W' o' k) o * (1 / 2)

/-- The kernel's activation of a centred first layer, not yet times the row's scale and the half. -/
def act (x : Fin 256 → ℝ) : Fin 256 → ℝ := fun k => x k * (1 + erf (x k * ((√(vareps x))⁻¹ * halfRoot)))

/-- What the kernel computes of a centred first layer before the last normalization. -/
def inner (x : Fin 256 → ℝ) : Fin 128 → ℝ := fun o =>
  (∑ k, act x k * halfW W' o k) * (√(vareps x))⁻¹ + cent b' o

theorem mean_add {n : ℕ} (x y : Fin n → ℝ) : mean (fun k => x k + y k) = mean x + mean y := by
  unfold mean; rw [Finset.sum_add_distrib, add_div]

theorem mean_sum {n m : ℕ} (x : Fin m → Fin n → ℝ) : mean (fun k => ∑ l, x l k) = ∑ l, mean (x l) := by
  unfold mean; rw [Finset.sum_comm, Finset.sum_div]

theorem mean_mul_left {n : ℕ} (a : ℝ) (x : Fin n → ℝ) : mean (fun k => a * x k) = a * mean x := by
  unfold mean; rw [← Finset.mul_sum, mul_div_assoc]

/-- The kernel's centred first layer is the centred first layer. -/
theorem picked_eq : picked A b = cent (hidden A b) := by
  funext k
  have h : ∀ k, ∑ l, (A l k + b k * (1 / 10)) = hidden A b k := fun k => by
    unfold hidden
    rw [Finset.sum_add_distrib]
    simp only [Finset.sum_const, Finset.card_univ, Fintype.card_fin, nsmul_eq_mul]
    push_cast; ring
  unfold picked cent
  rw [Finset.sum_sub_distrib, h, ← mean_sum (fun l k => A l k + b k * (1 / 10)), funext h]

/-- The reference's activation is the kernel's times the row's scale and the half. -/
theorem gelu_eq (x : Fin 256 → ℝ) (k : Fin 256) : gelu (unit x k) = act x k * (√(vareps x))⁻¹ * (1 / 2) := by
  unfold gelu act unit
  rw [neg_mul, erf_neg, mul_assoc (x k) (√(vareps x))⁻¹ halfRoot]
  ring

/-- The kernel's inner layer of a centred row is the centred second layer of the activations of the row's unit. -/
theorem inner_eq (x : Fin 256 → ℝ) : inner W' b' x = cent (second W' b' (fun k => gelu (unit x k))) := by
  funext o
  unfold inner second cent halfW
  rw [mean_add, mean_sum (fun (k : Fin 256) (o : Fin 128) => gelu (unit x k) * W' o k)]
  simp only [mean_mul_left]
  rw [Finset.sum_mul, add_sub_add_comm, ← Finset.sum_sub_distrib]
  congr 1
  refine Finset.sum_congr rfl fun k _ => ?_
  rw [gelu_eq]
  unfold cent
  ring

end Cert.Model
-- ==== Proof.Finite.lean ====
/- The exact operations at real arguments, and the programs' constants as reals. -/
module

public import proofs.«01_k».proof.Proof.Model
public import Idealize.ShloMosaic.Lib.IdealHost

@[expose] public section

noncomputable section

namespace Cert.Finite

open Idealize.ShloMosaic
open scoped BigOperators

/-- A sum of reals, read as extended reals. -/
theorem coe_sum {ι : Type*} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- `0x43800000` is 256. -/
theorem ofBits_256 : Ideal.ofBits .f32 0x43800000#32 = ((256 : ℝ) : EReal) := by
  simp [Ideal.ofBits, Ideal.ieee, -EReal.coe_mul]; norm_num

/-- `0x43000000` is 128. -/
theorem ofBits_128 : Ideal.ofBits .f32 0x43000000#32 = ((128 : ℝ) : EReal) := by
  simp [Ideal.ofBits, Ideal.ieee, -EReal.coe_mul]; norm_num

/-- `0x3B800000` is 1/256. -/
theorem ofBits_inv256 : Ideal.ofBits .f32 0x3B800000#32 = ((1 / 256 : ℝ) : EReal) := by
  simp [Ideal.ofBits, Ideal.ieee, -EReal.coe_mul]; norm_num

/-- `0x3F000000` is one half. -/
theorem ofBits_half : Ideal.ofBits .f32 0x3F000000#32 = ((1 / 2 : ℝ) : EReal) := by
  simp [Ideal.ofBits, Ideal.ieee, -EReal.coe_mul]; norm_num

/-- `0x41B00000` is 22. -/
theorem ofBits_22 : Ideal.ofBits .f32 0x41B00000#32 = ((22 : ℝ) : EReal) := by
  simp [Ideal.ofBits, Ideal.ieee, -EReal.coe_mul]; norm_num

/-- `0xBF800000` is minus one. -/
theorem ofBits_neg_one : Ideal.ofBits .f32 0xBF800000#32 = ((-1 : ℝ) : EReal) := by
  simp [Ideal.ofBits, Ideal.ieee, -EReal.coe_mul, -EReal.coe_neg]; norm_num

/-- `0x3727C5AC` is the layer norm's epsilon. -/
theorem ofBits_eps : Ideal.ofBits .f32 0x3727C5AC#32 = ((Model.eps : ℝ) : EReal) := by
  simp [Ideal.ofBits, Ideal.ieee, -EReal.coe_mul, Model.eps]; norm_num

/-- `0x3F3504F3` is the root of one half the programs multiply by. -/
theorem ofBits_halfRoot : Ideal.ofBits .f32 0x3F3504F3#32 = ((Model.halfRoot : ℝ) : EReal) := by
  simp [Ideal.ofBits, Ideal.ieee, -EReal.coe_mul, Model.halfRoot]; norm_num

/-- The reciprocal square root of a positive real. -/
theorem rsqrt_coe {x : ℝ} (h : 0 < x) : Ideal.rsqrt (x : EReal) = (((√x)⁻¹ : ℝ) : EReal) := by
  rw [Ideal.rsqrt_coe, if_neg (not_lt.mpr h.le), if_neg h.ne']

/-- The square root of a positive real. -/
theorem sqrt_coe {x : ℝ} (h : 0 < x) : Ideal.sqrt (x : EReal) = ((√x : ℝ) : EReal) := by
  rw [Ideal.sqrt_coe, if_neg (not_lt.mpr h.le)]

/-- The error function of a real. -/
theorem erf_coe (x : ℝ) : Ideal.erf (x : EReal) = ((Model.erf x : ℝ) : EReal) := Ideal.erf_coe x

/-- The complementary error function of a real. -/
theorem erfc_coe (x : ℝ) : Ideal.erfc (x : EReal) = ((1 - Model.erf x : ℝ) : EReal) := by
  rw [Ideal.erfc, erf_coe, EReal.coe_sub, EReal.coe_one]

end Cert.Finite
-- ==== Proof.Extended.lean ====
/- The encoder over the extended reals: what the reference computes of one row of codes, what the kernel computes of it, and
   that the two are one function, infinite tables and weights included. A normalised row with an infinite entry is zero on
   both sides; a row without one is real and `Model` applies. -/
module

public import proofs.«01_k».proof.Proof.Finite

@[expose] public section

noncomputable section

namespace Cert.Extended

open Idealize.ShloMosaic Cert.Finite
open scoped BigOperators

/-- The mean of a row. -/
def mean {n : ℕ} (x : Fin n → EReal) : EReal := (∑ k, x k) * ((1 / (n : ℝ) : ℝ) : EReal)

/-- A row less its mean. -/
def cent {n : ℕ} (x : Fin n → EReal) : Fin n → EReal := fun k => x k - mean x

/-- The mean of a row's squares, plus epsilon. -/
def vareps {n : ℕ} (x : Fin n → EReal) : EReal := mean (fun k => x k * x k) + (Model.eps : EReal)

/-- A row times the reciprocal root of its squares' mean plus epsilon. -/
def unit {n : ℕ} (x : Fin n → EReal) : Fin n → EReal := fun k => x k * Ideal.rsqrt (vareps x)

/-- The layer norm with gain one and bias zero. -/
def lnorm {n : ℕ} (x : Fin n → EReal) : Fin n → EReal := fun k => Ideal.div (cent x k) (Ideal.sqrt (vareps (cent x)))

/-- The exact GELU, as the reference writes it. -/
def gelu (x : EReal) : EReal := ((1 / 2 : ℝ) : EReal) * x * Ideal.erfc (-x * (Model.halfRoot : EReal))

/-- What the character of code `v` at position `l` contributes to the first layer. -/
def entry (T : Fin 22 → Fin 64 → EReal) (P : Fin 10 → Fin 64 → EReal) (W : Fin 256 → Fin 10 → Fin 64 → EReal) (l : Fin 10)
    (v : Fin 22) : Fin 256 → EReal := fun k => ∑ d, (T v d + P l d) * W k l d

variable (A : Fin 10 → Fin 256 → EReal) (b : Fin 256 → EReal) (W' : Fin 128 → Fin 256 → EReal) (b' : Fin 128 → EReal)

/-- The first linear layer: the ten positions' contributions and the bias. -/
def hidden : Fin 256 → EReal := fun k => ∑ l, A l k + b k

/-- The second linear layer of the activations. -/
def second (x : Fin 256 → EReal) : Fin 128 → EReal := fun o => ∑ k, x k * W' o k + b' o

/-- What the reference computes of the ten contributions. -/
def spec : Fin 128 → EReal := lnorm (second W' b' (fun k => gelu (lnorm (hidden A b) k)))

/-- One row of the kernel's table: a contribution and a tenth of the bias, centred. -/
def table (a : Fin 256 → EReal) : Fin 256 → EReal := cent (fun k => a k + b k * ((1 / 10 : ℝ) : EReal))

/-- The centred first layer as the kernel sums it. -/
def picked : Fin 256 → EReal := fun k => ∑ l, table b (A l) k

/-- The second layer's weights centred over the outputs and halved. -/
def halfW : Fin 128 → Fin 256 → EReal := fun o k => cent (fun o' => W' o' k) o * ((1 / 2 : ℝ) : EReal)

/-- The kernel's activation of a centred first layer, not yet times the row's scale and the half. -/
def act (x : Fin 256 → EReal) : Fin 256 → EReal := fun k =>
  x k * (1 + Ideal.erf (x k * (Ideal.rsqrt (vareps x) * (Model.halfRoot : EReal))))

/-- What the kernel computes of a centred first layer before the last normalization. -/
def inner (x : Fin 256 → EReal) : Fin 128 → EReal := fun o =>
  (∑ k, act x k * halfW W' o k) * Ideal.rsqrt (vareps x) + cent b' o

/-- What the kernel computes of the ten contributions. -/
def fused : Fin 128 → EReal := unit (inner W' b' (picked A b))

/-- Neither a real number. -/
def Inf (x : EReal) : Prop := x = ⊤ ∨ x = ⊥

theorem real_of_not {x : EReal} (h : ¬Inf x) : x = ((x.toReal : ℝ) : EReal) :=
  (EReal.coe_toReal (fun e => h (Or.inl e)) (fun e => h (Or.inr e))).symm

theorem Inf.add {x : EReal} (h : Inf x) (y : EReal) : Inf (x + y) := by
  rcases h with rfl | rfl
  · induction y with
    | bot => exact Or.inr rfl
    | coe r => exact Or.inl (EReal.top_add_coe r)
    | top => exact Or.inl rfl
  · exact Or.inr (EReal.bot_add y)

theorem Inf.neg {x : EReal} (h : Inf x) : Inf (-x) := by
  rcases h with rfl | rfl
  · exact Or.inr rfl
  · exact Or.inl rfl

theorem Inf.sub_right {y : EReal} (h : Inf y) (x : EReal) : Inf (x - y) := by
  rw [sub_eq_add_neg, add_comm]; exact h.neg.add x

theorem Inf.mul {x : EReal} (h : Inf x) {y : EReal} (hy : y ≠ 0) : Inf (x * y) := by
  rcases lt_or_gt_of_ne hy with hn | hp
  · rcases h with rfl | rfl
    · exact Or.inr (EReal.top_mul_of_neg hn)
    · exact Or.inl (EReal.bot_mul_of_neg hn)
  · rcases h with rfl | rfl
    · exact Or.inl (EReal.top_mul_of_pos hp)
    · exact Or.inr (EReal.bot_mul_of_pos hp)

theorem Inf.mul_self {x : EReal} (h : Inf x) : x * x = ⊤ := by
  rcases h with rfl | rfl
  · exact EReal.top_mul_top
  · exact EReal.bot_mul_bot

theorem Inf.sum {ι : Type*} [Fintype ι] {f : ι → EReal} {k : ι} (h : Inf (f k)) : Inf (∑ k, f k) := by
  classical
  rw [← Finset.add_sum_erase _ f (Finset.mem_univ k)]
  exact h.add _

/-- The square of an extended real is not negative. -/
theorem mul_self_nonneg (x : EReal) : 0 ≤ x * x := by
  induction x with
  | bot => rw [EReal.bot_mul_bot]; exact le_top
  | coe r => rw [← EReal.coe_mul]; exact_mod_cast _root_.mul_self_nonneg r
  | top => rw [EReal.top_mul_top]; exact le_top

variable {n : ℕ}

theorem inv_pos (x : Fin n → EReal) (k : Fin n) : (0 : ℝ) < 1 / (n : ℝ) := by
  have := k.isLt
  have : (0 : ℝ) < n := by exact_mod_cast (by omega : 0 < n)
  positivity

/-- The mean of a row with an infinite entry is infinite. -/
theorem mean_inf {x : Fin n → EReal} {k : Fin n} (h : Inf (x k)) : Inf (mean x) :=
  (Inf.sum h).mul (by exact_mod_cast (inv_pos x k).ne')

/-- A row with an infinite entry is infinite at every entry once centred. -/
theorem cent_inf {x : Fin n → EReal} {k : Fin n} (h : Inf (x k)) (j : Fin n) : Inf (cent x j) := (mean_inf h).sub_right _

/-- The squares of a row with an infinite entry have an infinite mean. -/
theorem vareps_inf {x : Fin n → EReal} {k : Fin n} (h : Inf (x k)) : vareps x = ⊤ := by
  have hs : ∑ j, x j * x j = ⊤ := by
    have := Finset.single_le_sum (f := fun j => x j * x j) (fun j _ => mul_self_nonneg (x j)) (Finset.mem_univ k)
    rw [h.mul_self] at this
    exact top_le_iff.1 this
  unfold vareps mean
  rw [hs, EReal.top_mul_coe_of_pos (inv_pos x k), EReal.top_add_coe]

/-- A row with an infinite entry normalises to zero. -/
theorem unit_inf {x : Fin n → EReal} {k : Fin n} (h : Inf (x k)) (j : Fin n) : unit x j = 0 := by
  unfold unit
  rw [vareps_inf h]
  exact mul_zero _

/-- The squares' mean plus epsilon is infinite or a positive real. -/
theorem vareps_cases (x : Fin n → EReal) : vareps x = ⊤ ∨ ∃ r : ℝ, 0 < r ∧ vareps x = (r : EReal) := by
  have hm : 0 ≤ mean (fun k => x k * x k) :=
    mul_nonneg (Finset.sum_nonneg fun k _ => mul_self_nonneg _) (by exact_mod_cast (by positivity : (0 : ℝ) ≤ 1 / (n : ℝ)))
  have hp : 0 < vareps x := lt_of_lt_of_le (by exact_mod_cast Model.eps_pos) (le_add_of_nonneg_left hm)
  induction hv : vareps x with
  | bot => rw [hv] at hp; exact absurd hp (by simp)
  | coe r => rw [hv] at hp; exact Or.inr ⟨r, by exact_mod_cast hp, rfl⟩
  | top => exact Or.inl rfl

/-- The layer norm is the unit of the centred row. -/
theorem lnorm_eq (x : Fin n → EReal) : lnorm x = unit (cent x) := by
  funext k
  unfold lnorm unit
  obtain h | ⟨r, hr, h⟩ := vareps_cases (cent x)
  · rw [h]
    show Ideal.div _ ⊤ = _ * 0
    simp [Ideal.div]
  · rw [h, sqrt_coe hr, rsqrt_coe hr, Ideal.div_coe (Real.sqrt_pos.2 hr).ne', one_div]

theorem mean_coe (x : Fin n → ℝ) : mean (fun k => (x k : EReal)) = ((Model.mean x : ℝ) : EReal) := by
  unfold mean Model.mean
  rw [← coe_sum, ← EReal.coe_mul, mul_one_div]

theorem cent_coe (x : Fin n → ℝ) : cent (fun k => (x k : EReal)) = fun k => ((Model.cent x k : ℝ) : EReal) := by
  funext k
  unfold cent Model.cent
  rw [mean_coe, EReal.coe_sub]

theorem vareps_coe (x : Fin n → ℝ) : vareps (fun k => (x k : EReal)) = ((Model.vareps x : ℝ) : EReal) := by
  unfold vareps Model.vareps
  simp only [← EReal.coe_mul]
  rw [mean_coe, EReal.coe_add]

theorem rsqrt_vareps (x : Fin n → ℝ) :
    Ideal.rsqrt (vareps (fun k => (x k : EReal))) = (((√(Model.vareps x))⁻¹ : ℝ) : EReal) := by
  rw [vareps_coe, rsqrt_coe (Model.vareps_pos x)]

theorem unit_coe (x : Fin n → ℝ) : unit (fun k => (x k : EReal)) = fun k => ((Model.unit x k : ℝ) : EReal) := by
  funext k
  unfold unit Model.unit
  rw [rsqrt_vareps, EReal.coe_mul]

theorem gelu_coe (x : ℝ) : gelu (x : EReal) = ((Model.gelu x : ℝ) : EReal) := by
  unfold gelu Model.gelu
  rw [← EReal.coe_neg, ← EReal.coe_mul, ← EReal.coe_mul, erfc_coe, ← EReal.coe_mul]

theorem gelu_zero : gelu 0 = 0 := by
  unfold gelu
  rw [mul_zero, zero_mul]

theorem act_coe (x : Fin 256 → ℝ) (k : Fin 256) : act (fun k => (x k : EReal)) k = ((Model.act x k : ℝ) : EReal) := by
  unfold act Model.act
  rw [rsqrt_vareps, ← EReal.coe_mul, ← EReal.coe_mul, erf_coe, ← EReal.coe_one, ← EReal.coe_add, ← EReal.coe_mul]

/-- A first layer with an infinite entry leaves the second layer's bias alone, on both sides. -/
theorem first_inf {k : Fin 256} (h : Inf (hidden A b k)) : fused A b W' b' = spec A b W' b' := by
  have hz : ∀ j, lnorm (hidden A b) j = 0 := fun j => by
    rw [lnorm_eq]; exact unit_inf (cent_inf h k) j
  have hr : second W' b' (fun k => gelu (lnorm (hidden A b) k)) = b' := by
    funext o
    simp only [second, hz, gelu_zero, zero_mul, Finset.sum_const_zero, zero_add]
  have hp : Inf (picked A b k) := by
    by_cases hb : Inf (b k)
    · refine Inf.sum (k := (0 : Fin 10)) (cent_inf (k := k) ?_ k)
      rw [add_comm]
      exact (hb.mul (by exact_mod_cast (by norm_num : (1 / 10 : ℝ) ≠ 0))).add _
    · by_contra hn
      have ha : ∀ l, ¬Inf (A l k) := fun l hl => hn (Inf.sum (k := l) (cent_inf (k := k) (hl.add _) k))
      unfold hidden at h
      rw [real_of_not hb, Finset.sum_congr rfl fun l _ => real_of_not (ha l), ← coe_sum, ← EReal.coe_add] at h
      rcases h with h | h
      · exact EReal.coe_ne_top _ h
      · exact EReal.coe_ne_bot _ h
  have hk : inner W' b' (picked A b) = cent b' := by
    funext o
    unfold inner
    rw [vareps_inf hp]
    show _ * 0 + _ = _
    rw [mul_zero, zero_add]
  unfold fused spec
  rw [hk, hr, lnorm_eq]

/-- The second layers of a real first layer agree. -/
theorem second_real (x : Fin 256 → ℝ) :
    unit (inner W' b' (fun k => (x k : EReal))) =
      unit (cent (second W' b' (fun k => ((Model.gelu (Model.unit x k) : ℝ) : EReal)))) := by
  have hs : 0 < (√(Model.vareps x))⁻¹ := _root_.inv_pos.2 (Real.sqrt_pos.2 (Model.vareps_pos x))
  have hg : ∀ k, Model.gelu (Model.unit x k) = 0 ↔ Model.act x k = 0 := fun k => by
    rw [Model.gelu_eq]
    constructor
    · intro h
      rcases mul_eq_zero.1 h with h | h
      · rcases mul_eq_zero.1 h with h | h
        · exact h
        · exact absurd h hs.ne'
      · norm_num at h
    · intro h; rw [h, zero_mul, zero_mul]
  by_cases hb : ∃ o, Inf (b' o)
  · obtain ⟨o, ho⟩ := hb
    have h1 : Inf (inner W' b' (fun k => (x k : EReal)) o) := by
      unfold inner; rw [add_comm]; exact (cent_inf ho o).add _
    have h2 : Inf (second W' b' (fun k => ((Model.gelu (Model.unit x k) : ℝ) : EReal)) o) := by
      unfold second; rw [add_comm]; exact ho.add _
    funext j
    rw [unit_inf h1, unit_inf (cent_inf h2 o)]
  by_cases hw : ∃ o k, Model.act x k ≠ 0 ∧ Inf (W' o k)
  · obtain ⟨o, k, hk, ho⟩ := hw
    have h1 : Inf (inner W' b' (fun k => (x k : EReal)) o) := by
      refine Inf.add (Inf.mul (Inf.sum (k := k) ?_) ?_) _
      · rw [mul_comm, act_coe]
        exact ((cent_inf (x := fun o' => W' o' k) ho o).mul (by exact_mod_cast (by norm_num : (1 / 2 : ℝ) ≠ 0))).mul
          (by exact_mod_cast hk)
      · rw [rsqrt_vareps]; exact_mod_cast hs.ne'
    have h2 : Inf (second W' b' (fun k => ((Model.gelu (Model.unit x k) : ℝ) : EReal)) o) := by
      refine Inf.add (Inf.sum (k := k) ?_) _
      rw [mul_comm]
      exact ho.mul (EReal.coe_ne_zero.2 fun e => hk ((hg k).1 e))
    funext j
    rw [unit_inf h1, unit_inf (cent_inf h2 o)]
  push Not at hb hw
  have hb' : b' = fun o => ((b' o).toReal : EReal) := funext fun o => real_of_not (hb o)
  have h1 : inner W' b' (fun k => (x k : EReal)) =
      fun o => ((Model.inner (fun o k => (W' o k).toReal) (fun o => (b' o).toReal) x o : ℝ) : EReal) := by
    funext o
    have ht : ∀ k, act (fun k => (x k : EReal)) k * halfW W' o k =
        ((Model.act x k * Model.halfW (fun o k => (W' o k).toReal) o k : ℝ) : EReal) := fun k => by
      rw [act_coe]
      by_cases hk : Model.act x k = 0
      · rw [hk, zero_mul, EReal.coe_zero, zero_mul]
      · unfold halfW Model.halfW
        rw [show (fun o' => W' o' k) = fun o' => ((W' o' k).toReal : EReal) from
          funext fun o' => real_of_not (hw o' k hk), cent_coe, ← EReal.coe_mul, ← EReal.coe_mul]
    unfold inner Model.inner
    rw [Finset.sum_congr rfl fun k _ => ht k, rsqrt_vareps, hb', cent_coe, ← coe_sum, ← EReal.coe_mul, ← EReal.coe_add]
    rfl
  have h2 : second W' b' (fun k => ((Model.gelu (Model.unit x k) : ℝ) : EReal)) =
      fun o => ((Model.second (fun o k => (W' o k).toReal) (fun o => (b' o).toReal)
        (fun k => Model.gelu (Model.unit x k)) o : ℝ) : EReal) := by
    funext o
    have ht : ∀ k, ((Model.gelu (Model.unit x k) : ℝ) : EReal) * W' o k =
        ((Model.gelu (Model.unit x k) * (W' o k).toReal : ℝ) : EReal) := fun k => by
      by_cases hk : Model.act x k = 0
      · rw [(hg k).2 hk, zero_mul, EReal.coe_zero, zero_mul]
      · rw [EReal.coe_mul, ← real_of_not (hw o k hk)]
    unfold second Model.second
    rw [Finset.sum_congr rfl fun k _ => ht k, EReal.coe_add, coe_sum, ← real_of_not (hb o)]
  rw [h1, h2, cent_coe, Model.inner_eq]

/-- The two sides agree on real contributions and a real bias. -/
theorem first_real (A : Fin 10 → Fin 256 → ℝ) (b : Fin 256 → ℝ) :
    fused (fun l k => (A l k : EReal)) (fun k => (b k : EReal)) W' b' =
      spec (fun l k => (A l k : EReal)) (fun k => (b k : EReal)) W' b' := by
  have hh : hidden (fun l k => (A l k : EReal)) (fun k => (b k : EReal)) =
      fun k => ((Model.hidden A b k : ℝ) : EReal) := by
    funext k
    unfold hidden Model.hidden
    rw [← coe_sum, ← EReal.coe_add]
  have hp : picked (fun l k => (A l k : EReal)) (fun k => (b k : EReal)) =
      fun k => ((Model.picked A b k : ℝ) : EReal) := by
    funext k
    have ht : ∀ l, table (fun k => (b k : EReal)) (fun k => (A l k : EReal)) k =
        ((Model.cent (fun k => A l k + b k * (1 / 10)) k : ℝ) : EReal) := fun l => by
      unfold table
      simp only [← EReal.coe_mul, ← EReal.coe_add]
      rw [cent_coe]
    unfold picked Model.picked
    rw [Finset.sum_congr rfl fun l _ => ht l, coe_sum]
  unfold fused spec
  rw [lnorm_eq, lnorm_eq, hh, hp, cent_coe, unit_coe, second_real, Model.picked_eq]
  simp only [gelu_coe]

/-- The kernel and the reference compute one function of the ten contributions. -/
theorem fused_eq : fused A b W' b' = spec A b W' b' := by
  by_cases h : ∃ k, Inf (hidden A b k)
  · obtain ⟨k, hk⟩ := h
    exact first_inf A b W' b' hk
  push Not at h
  have hb : b = fun k => ((b k).toReal : EReal) := funext fun k =>
    real_of_not fun hk => h k (by unfold hidden; rw [add_comm]; exact hk.add _)
  have ha : A = fun l k => ((A l k).toReal : EReal) := funext fun l => funext fun k =>
    real_of_not fun hk => h k ((Inf.sum (f := fun l => A l k) hk).add _)
  rw [hb, ha]
  exact first_real W' b' _ _

end Cert.Extended
-- ==== Proof.Tables.lean ====
/- What the kernel's first grid point leaves in its scratch arrays, at an index: the position mask, the code of each
   table row, the centred table, the halved second layer and its bias. -/
module

public import proofs.«01_k».proof.Proof.Extended
public import proofs.«01_k».proof.Proof.Gen.KernelIdeal.Skeleton

@[expose] public section

set_option maxRecDepth 16384

noncomputable section

namespace Cert.Tables

open Idealize.ShloMosaic Cert.KernelIdeal Cert.KernelIdeal.Gen Cert.Finite
open scoped BigOperators

/-- The kernel's test that row `r` of the table belongs to position `l`, as the integer it converts. -/
theorem mask_bits : ∀ (l : Fin 16) (r : Fin 256),
    BitVec.setWidth 32
        (IntOp.andi (IntOp.cmpi CmpIPredicate.sge (BitVec.ofNat 32 r.val) (IntOp.muli (22#32) (BitVec.ofNat 32 l.val)))
          (IntOp.cmpi CmpIPredicate.slt (BitVec.ofNat 32 r.val)
            (IntOp.addi (IntOp.muli (22#32) (BitVec.ofNat 32 l.val)) 22#32))) =
      if r.val / 22 = l.val then 1#32 else 0#32 := by
  decide +kernel

/-- An index below 256 read back from its 32 bits. -/
theorem toInt_small : ∀ r : Fin 256, (BitVec.ofNat 32 r.val).toInt = (r.val : ℤ) := by decide +kernel

/-- The kernel's test that row `r` of the table belongs to a position at all. -/
theorem below_bits : ∀ r : Fin 256,
    IntOp.cmpi CmpIPredicate.slt (BitVec.ofNat 32 r.val) 220#32 = if r.val < 220 then 1#1 else 0#1 := by
  decide +kernel

/-- The position mask's entry, before it is stored. -/
theorem mask_conv (l : Fin 16) (r : Fin 256) :
    (FloatOps.sitofp (F := Ideal) FTy.f32 (BitVec.setWidth 32
        (IntOp.andi (IntOp.cmpi CmpIPredicate.sge (BitVec.ofNat 32 r.val) (IntOp.muli (22#32) (BitVec.ofNat 32 l.val)))
          (IntOp.cmpi CmpIPredicate.slt (BitVec.ofNat 32 r.val)
            (IntOp.addi (IntOp.muli (22#32) (BitVec.ofNat 32 l.val)) 22#32)))) : EReal) =
      if r.val / 22 = l.val then 1 else 0 := by
  rw [mask_bits]
  split_ifs
  · show (((1#32).toInt : ℝ) : EReal) = 1
    simp
  · show (((0#32).toInt : ℝ) : EReal) = 0
    simp

/-- The position mask: row `r` of the table belongs to position `r / 22`. -/
theorem mask_eq (l : Fin 16) (r : Fin 256) :
    k0_pay3 (F := Ideal) (ix2 l r) = if r.val / 22 = l.val then 1 else 0 := by
  pointwise [k0_pay3, k0_pay2]
  exact mask_conv l r

/-- The code each table row stands for, and minus one for the rows past the last position. -/
theorem code_eq (r : Fin 256) :
    k0_pay4 (F := Ideal) (ix2 0 r) = (((if r.val < 220 then ((r.val % 22 : ℕ) : ℝ) else -1) : ℝ) : EReal) := by
  pointwise [k0_pay4, k0_pay2]
  simp only [mask_bits]
  have hs : ∑ x : Fin 16, (FloatOps.sitofp (F := Ideal) FTy.f32 (BitVec.ofNat 32 x.val) : EReal) *
      (FloatOps.sitofp (F := Ideal) FTy.f32 (if r.val / 22 = x.val then 1#32 else 0#32) : EReal) =
        (((r.val / 22 : ℕ) : ℝ) : EReal) := by
    have hr : r.val / 22 < 16 := by omega
    rw [Finset.sum_eq_single (⟨r.val / 22, hr⟩ : Fin 16)]
    · rw [if_pos rfl]
      show (((BitVec.ofNat 32 (r.val / 22)).toInt : ℝ) : EReal) * (((1#32).toInt : ℝ) : EReal) = _
      rw [toInt_small ⟨r.val / 22, by omega⟩]
      rw [show (1#32).toInt = 1 from rfl, Int.cast_one, EReal.coe_one, mul_one, Int.cast_natCast]
    · intro x _ hx
      rw [if_neg (fun h => hx (Fin.ext h.symm))]
      show _ * (((0#32).toInt : ℝ) : EReal) = _
      simp
    · intro h; exact absurd (Finset.mem_univ _) h
  rw [hs, below_bits, ofBits_22, ofBits_neg_one]
  show Scalar.select _ ((((BitVec.ofNat 32 r.val).toInt : ℝ) : EReal) - _) _ = _
  rw [toInt_small, ← EReal.coe_mul, ← EReal.coe_sub]
  split_ifs with h
  · show ((_ : ℝ) : EReal) = _
    congr 1
    have := Nat.div_add_mod r.val 22
    have h' : (r.val : ℝ) = 22 * ((r.val / 22 : ℕ) : ℝ) + ((r.val % 22 : ℕ) : ℝ) := by exact_mod_cast this.symm
    rw [Int.cast_natCast]; linarith
  · rfl

/-- The named constant a tenth at the exact values. -/
theorem tenth_eq : (Named.named (F := Ideal) κ "tenth" (φ := .f32) 0x3DCCCCCD#32 : EReal) = ((1 / 10 : ℝ) : EReal) :=
  IdealRules.named_const.ideal_named_scalar _ _ _ _ rfl

/-- The centred table: the bias's tenth added, the row's mean taken off. -/
theorem centred_eq (v : FVec Ideal S256x256 .f32) (w : Vec Ideal S1x256 .f32) (r : Fin 256) (a b : Fin 256 → EReal)
    (ha : ∀ k, v (ix2 r k) = a k) (hb : ∀ k, w (ix2 0 k) = b k) (k : Fin 256) :
    k0_pay12 (F := Ideal) v w (ix2 r k) = Extended.table b a k := by
  pointwise [k0_pay12]
  simp only [ha, hb, tenth_eq, ofBits_256]
  rw [Ideal.div_coe (by norm_num)]
  simp [Extended.table, Extended.cent, Extended.mean]

/-- The second layer's weights, centred over the outputs and halved. -/
theorem halfW_eq (w : Vec Ideal S128x256 .f32) (W' : Fin 128 → Fin 256 → EReal)
    (hw : ∀ o k, w (ix2 o k) = W' o k) (o : Fin 128) (k : Fin 256) :
    k0_pay13 (F := Ideal) w (ix2 o k) = Extended.halfW W' o k := by
  pointwise [k0_pay13]
  simp only [hw, ofBits_128, ofBits_half]
  rw [Ideal.div_coe (by norm_num)]
  simp [Extended.halfW, Extended.cent, Extended.mean]

/-- The second layer's bias, centred. -/
theorem bias_eq (w : Vec Ideal S1x128 .f32) (b' : Fin 128 → EReal) (hw : ∀ o, w (ix2 0 o) = b' o) (o : Fin 128) :
    k0_pay14 (F := Ideal) w (ix2 0 o) = Extended.cent b' o := by
  pointwise [k0_pay14]
  simp only [hw, ofBits_128]
  rw [Ideal.div_coe (by norm_num)]
  simp [Extended.cent, Extended.mean]

end Cert.Tables
-- ==== Proof.Block.lean ====
/- What the kernel stores of one grid point's block at an index, given what its scratch arrays hold: the one-hot row picks
   the row's ten table entries, and the rest is the fused second layer of `Extended`. -/
module

public import proofs.«01_k».proof.Proof.Extended
public import proofs.«01_k».proof.Proof.Gen.KernelIdeal.Skeleton

@[expose] public section

set_option maxRecDepth 16384

noncomputable section

namespace Cert.Block

open Idealize.ShloMosaic Cert.KernelIdeal Cert.KernelIdeal.Gen Cert.Finite
open scoped BigOperators

/-- The code the kernel spreads over table row `r`: that of position `r / 22`, and zero past the last position. -/
theorem spread_eq (c : Fin 10 → Fin 22) (r : Fin 256) :
    ∑ x : Fin 10, (((c x).val : ℝ) : EReal) * (if r.val / 22 = x.val then 1 else 0) =
      (((if h : r.val / 22 < 10 then ((c ⟨r.val / 22, h⟩).val : ℝ) else 0) : ℝ) : EReal) := by
  split_ifs with h
  · rw [Finset.sum_eq_single (⟨r.val / 22, h⟩ : Fin 10)]
    · rw [if_pos rfl, mul_one]
    · intro x _ hx
      rw [if_neg (fun e => hx (Fin.ext e.symm)), mul_zero]
    · intro e; exact absurd (Finset.mem_univ _) e
  · refine Finset.sum_eq_zero fun x _ => ?_
    have := x.isLt
    rw [if_neg (by omega), mul_zero]

/-- The row's one-hot test at table row `r`: `r` belongs to a position and stands for that position's code. -/
theorem hot_iff (c : Fin 10 → Fin 22) (r : Fin 256) :
    (∑ x : Fin 10, (((c x).val : ℝ) : EReal) * (if r.val / 22 = x.val then 1 else 0) =
      (((if r.val < 220 then ((r.val % 22 : ℕ) : ℝ) else -1) : ℝ) : EReal)) ↔
      ∃ h : r.val / 22 < 10, (c ⟨r.val / 22, h⟩).val = r.val % 22 := by
  rw [spread_eq, EReal.coe_eq_coe_iff]
  by_cases h : r.val < 220
  · have h' : r.val / 22 < 10 := by omega
    rw [if_pos h, dif_pos h']
    exact ⟨fun e => ⟨h', by exact_mod_cast e⟩, fun ⟨_, e⟩ => by exact_mod_cast e⟩
  · have h' : ¬ r.val / 22 < 10 := by omega
    rw [if_neg h, dif_neg h']
    exact ⟨fun e => by norm_num at e, fun ⟨e, _⟩ => absurd e h'⟩

/-- The one-hot row's contraction with the table picks the row's ten entries. -/
theorem pick_eq (c : Fin 10 → Fin 22) (f : Fin 256 → EReal) :
    ∑ r : Fin 256, (if ∑ x : Fin 10, (((c x).val : ℝ) : EReal) * (if r.val / 22 = x.val then 1 else 0) =
        (((if r.val < 220 then ((r.val % 22 : ℕ) : ℝ) else -1) : ℝ) : EReal) then (1 : EReal) else 0) * f r =
      ∑ l : Fin 10, f ⟨l.val * 22 + (c l).val, by omega⟩ := by
  simp only [hot_iff]
  rw [Fin.sum_univ_two_halves 220 36 (by norm_num)]
  have h2 : ∑ k : Fin 36, (if ∃ h : (220 + k.val) / 22 < 10, (c ⟨(220 + k.val) / 22, h⟩).val = (220 + k.val) % 22
      then (1 : EReal) else 0) * f ⟨220 + k.val, by omega⟩ = 0 := by
    refine Finset.sum_eq_zero fun k _ => ?_
    rw [if_neg (fun ⟨h, _⟩ => by omega), zero_mul]
  rw [h2, add_zero, Fin.sum_univ_tiles 10 22 (by norm_num)]
  refine Finset.sum_congr rfl fun l _ => ?_
  rw [Finset.sum_eq_single (c l)]
  · rw [if_pos, one_mul]
    have hv := (c l).isLt
    have hq : (l.val * 22 + (c l).val) / 22 = l.val := by omega
    refine ⟨by dsimp only; omega, ?_⟩
    have : (⟨(l.val * 22 + (c l).val) / 22, by omega⟩ : Fin 10) = l := Fin.ext hq
    dsimp only
    rw [this]; omega
  · intro v _ hv
    rw [if_neg, zero_mul]
    rintro ⟨h, e⟩
    have hlt := v.isLt
    dsimp only at h e
    have : (⟨(l.val * 22 + v.val) / 22, h⟩ : Fin 10) = l := Fin.ext (by dsimp only; omega)
    rw [this] at e
    exact hv (Fin.ext (by omega))
  · intro e; exact absurd (Finset.mem_univ _) e

variable (A : Fin 10 → Fin 22 → Fin 256 → EReal) (b : Fin 256 → EReal) (W' : Fin 128 → Fin 256 → EReal) (c : Fin 10 → Fin 22)

/-- A block's row before its last normalization, less the second layer's bias. -/
theorem inner_eq (v3 : Vec Ideal S10x8192 .i32) (v6 : Vec Ideal S10x256 .f32) (v8 : Vec Ideal S1x256 .f32)
    (v14 : Vec Ideal S256x256 .f32) (v32 : Vec Ideal S128x256 .f32) (r : Fin 8192)
    (h3 : ∀ l : Fin 10, (v3 (ix2 l r) : BitVec 32).toInt = ((c l).val : ℤ))
    (h6 : ∀ (l : Fin 10) (q : Fin 256), v6 (ix2 l q) = if q.val / 22 = l.val then 1 else 0)
    (h8 : ∀ q : Fin 256, v8 (ix2 0 q) = (((if q.val < 220 then ((q.val % 22 : ℕ) : ℝ) else -1) : ℝ) : EReal))
    (h14 : ∀ (l : Fin 10) (v : Fin 22) (k : Fin 256) (h : l.val * 22 + v.val < 256),
      v14 (ix2 ⟨l.val * 22 + v.val, h⟩ k) = Extended.table b (A l v) k)
    (h32 : ∀ o k, v32 (ix2 o k) = Extended.halfW W' o k) (o : Fin 128) :
    k0_pay15 (F := Ideal) v3 v6 v8 v14 v32 (ix2 r o) =
      (∑ k, Extended.act (Extended.picked (fun l => A l (c l)) b) k * Extended.halfW W' o k) *
        Ideal.rsqrt (Extended.vareps (Extended.picked (fun l => A l (c l)) b)) := by
  have hi : ∀ l : Fin 10, (FloatOps.sitofp (F := Ideal) FTy.f32 (v3 (ix2 l r) : BitVec 32) : EReal) =
      (((c l).val : ℝ) : EReal) := fun l => by
    show ((((v3 (ix2 l r) : BitVec 32).toInt : ℤ) : ℝ) : EReal) = _
    rw [h3, Int.cast_natCast]
  have hp : ∀ k, ∑ q : Fin 256, (if ∑ x : Fin 10, (((c x).val : ℝ) : EReal) * (if q.val / 22 = x.val then 1 else 0) =
        (((if q.val < 220 then ((q.val % 22 : ℕ) : ℝ) else -1) : ℝ) : EReal) then (1 : EReal) else 0) * v14 (ix2 q k) =
      Extended.picked (fun l => A l (c l)) b k := fun k => by
    rw [pick_eq c (fun q => v14 (ix2 q k))]
    simp only [h14]
    rfl
  pointwise [k0_pay15]
  simp only [hi, h6, h8, hp, h32, ofBits_inv256, ofBits_eps, ofBits_halfRoot]
  have hv : (∑ k, Extended.picked (fun l => A l (c l)) b k * Extended.picked (fun l => A l (c l)) b k) *
      ((1 / 256 : ℝ) : EReal) + (Model.eps : EReal) = Extended.vareps (Extended.picked (fun l => A l (c l)) b) := by
    simp [Extended.vareps, Extended.mean]
  rw [hv]
  rfl

/-- A block's row as stored. -/
theorem row_eq (v35 : FVec Ideal S8192x128 .f32) (v36 : Vec Ideal S1x128 .f32) (r : Fin 8192) (x y : Fin 128 → EReal)
    (hx : ∀ o, v35 (ix2 r o) = x o) (hy : ∀ o, v36 (ix2 0 o) = y o) (o : Fin 128) :
    k0_pay1 (F := Ideal) v35 v36 (ix2 r o) = Extended.unit (fun o => x o + y o) o := by
  pointwise [k0_pay1]
  simp only [hx, hy, ofBits_128, ofBits_eps]
  rw [Ideal.div_coe (by norm_num)]
  simp [Extended.unit, Extended.vareps, Extended.mean]

end Cert.Block
-- ==== Proof.Points.lean ====
/- What each grid point leaves: the first point fills the scratch arrays with the tables, the second keeps them, and both
   store the fused encoder's rows, given what the input blocks hold. -/
module

public import proofs.«01_k».proof.Proof.Tables
public import proofs.«01_k».proof.Proof.Block
public import proofs.«01_k».proof.Proof.Gen.KernelIdeal.Value
public import Idealize.ShloMosaic.Lib.Pipeline.ValueKit
public import Idealize.ShloMosaic.Lib.Pipeline.ReadBack

@[expose] public section

set_option maxRecDepth 16384

noncomputable section

namespace Cert.Points

open Cert.KernelIdeal Cert.KernelIdeal.Gen Idealize.ShloMosaic Idealize.ShloMosaic.TcCoe Idealize.SL.Sem Cert.Finite
open scoped BigOperators

variable (m : (ℓ : Loc nD τ sig) → Buf (Elt Ideal) ℓ) (c : Dev nD)
variable (T : Fin 22 → Fin 64 → EReal) (P : Fin 10 → Fin 64 → EReal) (W : Fin 256 → Fin 10 → Fin 64 → EReal)
  (b : Fin 256 → EReal) (W' : Fin 128 → Fin 256 → EReal) (b' : Fin 128 → EReal)

/-- What the weights' blocks at a point hold. -/
structure Weights (t : Fin cfg0.N) : Prop where
  char : ∀ (v : Fin 22) (d : Fin 64), iblk m c 1 t (ix2 v d) = T v d
  pos : ∀ (l : Fin 10) (d : Fin 64), iblk m c 2 t (ix2 l d) = P l d
  first : ∀ (k : Fin 256) (l : Fin 10) (d : Fin 64) (h : l.val * 64 + d.val < 640),
    iblk m c 3 t (ix2 k ⟨l.val * 64 + d.val, h⟩) = W k l d
  bias : ∀ k : Fin 256, iblk m c 4 t (ix2 0 k) = b k
  second : ∀ (o : Fin 128) (k : Fin 256), iblk m c 5 t (ix2 o k) = W' o k
  bias' : ∀ o : Fin 128, iblk m c 6 t (ix2 0 o) = b' o

/-- The scratch arrays after point `n` hold the tables. -/
structure Scratch (n : ℕ) (hn : n < cfg0.N) : Prop where
  table : ∀ (l : Fin 10) (v : Fin 22) (k : Fin 256) (h : l.val * 22 + v.val < 256),
    (outsAt0 m c n hn).2.1 (ix2 ⟨l.val * 22 + v.val, h⟩ k) = Extended.table b (Extended.entry T P W l v) k
  mask : ∀ (l : Fin 16) (q : Fin 256), (outsAt0 m c n hn).2.2.1 (ix2 l q) = if q.val / 22 = l.val then 1 else 0
  code : ∀ q : Fin 256, (outsAt0 m c n hn).2.2.2.1 (ix2 0 q) =
    (((if q.val < 220 then ((q.val % 22 : ℕ) : ℝ) else -1) : ℝ) : EReal)
  half : ∀ (o : Fin 128) (k : Fin 256), (outsAt0 m c n hn).2.2.2.2.1 (ix2 o k) = Extended.halfW W' o k
  bias : ∀ o : Fin 128, (outsAt0 m c n hn).2.2.2.2.2 (ix2 0 o) = Extended.cent b' o

variable {m c T P W b W' b'}

/-- A table row's contraction depends on its code, its position and the weights' columns alone. -/
theorem row_congr (X : S22x64.Idx → EReal) (Y : S10x64.Idx → EReal) (Z : S256x640.Idx → EReal) {v v' : Fin 22}
    {l l' : Fin 10} (k : Fin 256) {f f' : Fin 64 → Fin 640} (hv : v.val = v'.val) (hl : l.val = l'.val)
    (hf : ∀ d, (f d).val = (f' d).val) :
    ∑ d, (X (ix2 v d) + Y (ix2 l d)) * Z (ix2 k (f d)) = ∑ d, (X (ix2 v' d) + Y (ix2 l' d)) * Z (ix2 k (f' d)) := by
  obtain rfl := Fin.ext hv
  obtain rfl := Fin.ext hl
  obtain rfl : f = f' := funext fun d => Fin.ext (hf d)
  rfl

/-- The stack of ten blocks read at row `l * 22 + v`: block `l`'s row `v`. -/
theorem ladder (X : S22x64.Idx → EReal) (Y : S10x64.Idx → EReal) (Z : S256x640.Idx → EReal)
    (hX : ∀ (v : Fin 22) (d : Fin 64), X (ix2 v d) = T v d)
    (hY : ∀ (l : Fin 10) (d : Fin 64), Y (ix2 l d) = P l d)
    (hZ : ∀ (k : Fin 256) (l : Fin 10) (d : Fin 64) (h : l.val * 64 + d.val < 640),
      Z (ix2 k ⟨l.val * 64 + d.val, h⟩) = W k l d)
    (l : Fin 10) (v : Fin 22) (k : Fin 256) :
    (if h : l.val * 22 + v.val < 22 then ∑ x : Fin 64, (X (ix2 ⟨l.val * 22 + v.val, by omega⟩ x) + Y (ix2 0 x)) * Z (ix2 k ⟨x.val, by omega⟩)
      else if h : l.val * 22 + v.val - 22 < 22 then ∑ x : Fin 64, (X (ix2 ⟨l.val * 22 + v.val - 22, by omega⟩ x) + Y (ix2 1 x)) * Z (ix2 k ⟨64 + x.val, by omega⟩)
      else if h : l.val * 22 + v.val - 22 - 22 < 22 then ∑ x : Fin 64, (X (ix2 ⟨l.val * 22 + v.val - 22 - 22, by omega⟩ x) + Y (ix2 2 x)) * Z (ix2 k ⟨128 + x.val, by omega⟩)
      else if h : l.val * 22 + v.val - 22 - 22 - 22 < 22 then ∑ x : Fin 64, (X (ix2 ⟨l.val * 22 + v.val - 22 - 22 - 22, by omega⟩ x) + Y (ix2 3 x)) * Z (ix2 k ⟨192 + x.val, by omega⟩)
      else if h : l.val * 22 + v.val - 22 - 22 - 22 - 22 < 22 then ∑ x : Fin 64, (X (ix2 ⟨l.val * 22 + v.val - 22 - 22 - 22 - 22, by omega⟩ x) + Y (ix2 4 x)) * Z (ix2 k ⟨256 + x.val, by omega⟩)
      else if h : l.val * 22 + v.val - 22 - 22 - 22 - 22 - 22 < 22 then ∑ x : Fin 64, (X (ix2 ⟨l.val * 22 + v.val - 22 - 22 - 22 - 22 - 22, by omega⟩ x) + Y (ix2 5 x)) * Z (ix2 k ⟨320 + x.val, by omega⟩)
      else if h : l.val * 22 + v.val - 22 - 22 - 22 - 22 - 22 - 22 < 22 then ∑ x : Fin 64, (X (ix2 ⟨l.val * 22 + v.val - 22 - 22 - 22 - 22 - 22 - 22, by omega⟩ x) + Y (ix2 6 x)) * Z (ix2 k ⟨384 + x.val, by omega⟩)
      else if h : l.val * 22 + v.val - 22 - 22 - 22 - 22 - 22 - 22 - 22 < 22 then ∑ x : Fin 64, (X (ix2 ⟨l.val * 22 + v.val - 22 - 22 - 22 - 22 - 22 - 22 - 22, by omega⟩ x) + Y (ix2 7 x)) * Z (ix2 k ⟨448 + x.val, by omega⟩)
      else if h : l.val * 22 + v.val - 22 - 22 - 22 - 22 - 22 - 22 - 22 - 22 < 22 then ∑ x : Fin 64, (X (ix2 ⟨l.val * 22 + v.val - 22 - 22 - 22 - 22 - 22 - 22 - 22 - 22, by omega⟩ x) + Y (ix2 8 x)) * Z (ix2 k ⟨512 + x.val, by omega⟩)
      else if h : l.val * 22 + v.val - 22 - 22 - 22 - 22 - 22 - 22 - 22 - 22 - 22 < 22 then ∑ x : Fin 64, (X (ix2 ⟨l.val * 22 + v.val - 22 - 22 - 22 - 22 - 22 - 22 - 22 - 22 - 22, by omega⟩ x) + Y (ix2 9 x)) * Z (ix2 k ⟨576 + x.val, by omega⟩)
      else 0 : EReal) =
      Extended.entry T P W l v k := by
  have hv := v.isLt
  have e : Extended.entry T P W l v k =
      ∑ d : Fin 64, (X (ix2 v d) + Y (ix2 l d)) * Z (ix2 k ⟨l.val * 64 + d.val, by omega⟩) := by
    simp only [hX, hY, hZ]; rfl
  rw [e]
  clear e hX hY hZ
  obtain hl | hl | hl | hl | hl | hl | hl | hl | hl | hl : l.val = 0 ∨ l.val = 1 ∨ l.val = 2 ∨ l.val = 3 ∨ l.val = 4 ∨ l.val = 5 ∨ l.val = 6 ∨ l.val = 7 ∨ l.val = 8 ∨ l.val = 9 := by omega
  · rw [dif_pos (by omega)]
    exact row_congr X Y Z k (by dsimp only; omega) hl.symm (fun d => by dsimp only; omega)
  · rw [dif_neg (by omega), dif_pos (by omega)]
    exact row_congr X Y Z k (by dsimp only; omega) hl.symm (fun d => by dsimp only; omega)
  · rw [dif_neg (by omega), dif_neg (by omega), dif_pos (by omega)]
    exact row_congr X Y Z k (by dsimp only; omega) hl.symm (fun d => by dsimp only; omega)
  · rw [dif_neg (by omega), dif_neg (by omega), dif_neg (by omega), dif_pos (by omega)]
    exact row_congr X Y Z k (by dsimp only; omega) hl.symm (fun d => by dsimp only; omega)
  · rw [dif_neg (by omega), dif_neg (by omega), dif_neg (by omega), dif_neg (by omega), dif_pos (by omega)]
    exact row_congr X Y Z k (by dsimp only; omega) hl.symm (fun d => by dsimp only; omega)
  · rw [dif_neg (by omega), dif_neg (by omega), dif_neg (by omega), dif_neg (by omega), dif_neg (by omega), dif_pos (by omega)]
    exact row_congr X Y Z k (by dsimp only; omega) hl.symm (fun d => by dsimp only; omega)
  · rw [dif_neg (by omega), dif_neg (by omega), dif_neg (by omega), dif_neg (by omega), dif_neg (by omega), dif_neg (by omega), dif_pos (by omega)]
    exact row_congr X Y Z k (by dsimp only; omega) hl.symm (fun d => by dsimp only; omega)
  · rw [dif_neg (by omega), dif_neg (by omega), dif_neg (by omega), dif_neg (by omega), dif_neg (by omega), dif_neg (by omega), dif_neg (by omega), dif_pos (by omega)]
    exact row_congr X Y Z k (by dsimp only; omega) hl.symm (fun d => by dsimp only; omega)
  · rw [dif_neg (by omega), dif_neg (by omega), dif_neg (by omega), dif_neg (by omega), dif_neg (by omega), dif_neg (by omega), dif_neg (by omega), dif_neg (by omega), dif_pos (by omega)]
    exact row_congr X Y Z k (by dsimp only; omega) hl.symm (fun d => by dsimp only; omega)
  · rw [dif_neg (by omega), dif_neg (by omega), dif_neg (by omega), dif_neg (by omega), dif_neg (by omega), dif_neg (by omega), dif_neg (by omega), dif_neg (by omega), dif_neg (by omega), dif_pos (by omega)]
    exact row_congr X Y Z k (by dsimp only; omega) hl.symm (fun d => by dsimp only; omega)

/-- The first point's table. -/
theorem table_A (t : Fin cfg0.N) (h0 : t.val % 2 = 0) (hw : Weights m c T P W b W' b' t) (l : Fin 10) (v : Fin 22)
    (k : Fin 256) (h : l.val * 22 + v.val < 256) :
    (outsAt0 m c t.val t.isLt).2.1 (ix2 ⟨l.val * 22 + v.val, h⟩ k) =
      Extended.table b (Extended.entry T P W l v) k := by
  have hv := v.isLt
  rw [outsAt0_A m c t h0]; frame_out
  refine Tables.centred_eq _ _ _ (Extended.entry T P W l v) b (fun k => ?_) hw.bias k
  simp only [Memref.IsWhole.read_unread]
  pointwise
  exact ladder _ _ _ hw.char hw.pos hw.first l v k

/-- The first point leaves the tables in the scratch arrays. -/
theorem scratch_A (t : Fin cfg0.N) (h0 : t.val % 2 = 0) (hw : Weights m c T P W b W' b' t) :
    Scratch m c T P W b W' b' t.val t.isLt where
  table := table_A t h0 hw
  mask l q := by
    rw [outsAt0_A m c t h0]; frame_out
    exact Tables.mask_eq l q
  code q := by
    rw [outsAt0_A m c t h0]; frame_out
    exact Tables.code_eq q
  half o k := by
    rw [outsAt0_A m c t h0]; frame_out
    exact Tables.halfW_eq _ W' hw.second o k
  bias o := by
    rw [outsAt0_A m c t h0]; frame_out
    exact Tables.bias_eq _ b' hw.bias' o

/-- The second point keeps them. -/
theorem scratch_B (t : Fin cfg0.N) (h0 : ¬t.val % 2 = 0)
    (hs : Scratch m c T P W b W' b' (t.val - 1) (Nat.lt_of_le_of_lt (Nat.sub_le _ _) t.isLt)) :
    Scratch m c T P W b W' b' t.val t.isLt where
  table l v k h := by
    rw [outsAt0_B m c t h0]; frame_out
    exact hs.table l v k h
  mask l q := by
    rw [outsAt0_B m c t h0]; frame_out
    exact hs.mask l q
  code q := by
    rw [outsAt0_B m c t h0]; frame_out
    exact hs.code q
  half o k := by
    rw [outsAt0_B m c t h0]; frame_out
    exact hs.half o k
  bias o := by
    rw [outsAt0_B m c t h0]; frame_out
    exact hs.bias o

/-- The rows the first point stores. -/
theorem out_A (t : Fin cfg0.N) (h0 : t.val % 2 = 0) (hw : Weights m c T P W b W' b' t) (q : Fin 10 → Fin 22) (r : Fin 8192)
    (hq : ∀ l : Fin 10, (iblk m c 0 t (ix2 l r) : BitVec 32).toInt = ((q l).val : ℤ)) (o : Fin 128) :
    (outsAt0 m c t.val t.isLt).1 (ix2 r o) = Extended.fused (fun l => Extended.entry T P W l (q l)) b W' b' o := by
  have ht := table_A t h0 hw
  rw [outsAt0_A m c t h0] at ht ⊢
  frame_out at ht
  frame_out
  refine Block.row_eq _ _ r _ (Extended.cent b') (fun o => ?_)
    (fun o => Tables.bias_eq _ b' hw.bias' o) o
  refine Block.inner_eq (Extended.entry T P W) b W' q _ _ _ _ _ r hq (fun l p => ?_) Tables.code_eq ht
    (fun o k => Tables.halfW_eq _ W' hw.second o k) o
  refine (congrFun (View.readCov_fill (s := S16x256) _ (off := ![0, 0]) _ _ _
    (Rect.unit (s := S16x256) ![0, 0] S10x256.size inb_S16x256_S10x256_0_0) (by decide)) _).trans ?_
  pointwise
  exact Tables.mask_conv ⟨l.val, by omega⟩ p

/-- The rows the second point stores. -/
theorem out_B (t : Fin cfg0.N) (h0 : ¬t.val % 2 = 0)
    (hs : Scratch m c T P W b W' b' (t.val - 1) (Nat.lt_of_le_of_lt (Nat.sub_le _ _) t.isLt)) (q : Fin 10 → Fin 22)
    (r : Fin 8192) (hq : ∀ l : Fin 10, (iblk m c 0 t (ix2 l r) : BitVec 32).toInt = ((q l).val : ℤ)) (o : Fin 128) :
    (outsAt0 m c t.val t.isLt).1 (ix2 r o) = Extended.fused (fun l => Extended.entry T P W l (q l)) b W' b' o := by
  rw [outsAt0_B m c t h0]
  frame_out
  simp only [read_unread_whole]
  refine Block.row_eq _ _ r _ (Extended.cent b') (fun o => ?_) hs.bias o
  refine Block.inner_eq (Extended.entry T P W) b W' q _ _ _ _ _ r hq (fun l p => ?_) hs.code hs.table hs.half o
  pointwise
  exact hs.mask ⟨l.val, by omega⟩ p

end Cert.Points
-- ==== Proof.KernelValue.lean ====
/- The array the kernel leaves: at row `i` and output `o` the fused encoder of row `i`'s codes, the memory's codes
   in range. -/
module

public import proofs.«01_k».proof.Proof.Points
public import Idealize.ShloMosaic.Lib.Claim

@[expose] public section

set_option maxRecDepth 16384

noncomputable section

namespace Cert.KernelValue

open Cert.KernelIdeal Cert.KernelIdeal.Gen Idealize.ShloMosaic Idealize.ShloMosaic.TcCoe Idealize.SL.Sem Cert.Finite
open scoped BigOperators

variable (m : (ℓ : Loc nD τ sig) → Buf (Elt Ideal) ℓ) (c : Dev nD)

/-- Every window's block indices: the codes and the result advance with the point, the weights stay. -/
theorem idx : ∀ t : Fin cfg0.N, win0_0.index t = ![0, t.val] ∧ win0_1.index t = ![0, 0] ∧ win0_2.index t = ![0, 0] ∧
    win0_3.index t = ![0, 0] ∧ win0_4.index t = ![0, 0] ∧ win0_5.index t = ![0, 0] ∧ win0_6.index t = ![0, 0] :=
  (by decide +kernel : ∀ t : Fin grid0.N, _)

/-- The codes' block: position `l` of row `8192 * t + r`. -/
theorem codes_blk (t : Fin cfg0.N) (l : Fin 10) (r : Fin 8192) (h : t.val * 8192 + r.val < 16384) :
    iblk m c 0 t (ix2 l r) = m ((c : Thread nD τ).loc main_arg0) (ix2 ⟨t.val * 8192 + r.val, h⟩ l) := by
  blk_simp [iblk, idx t]
  entry_read
  show transpose S10x16384 [1, 0] (m ((c : Thread nD τ).loc main_arg0)) transposes_S16384x10_S10x16384_1_0
    ((win0_0.blk t).view.emb (ix2 l r)) = _
  pointwise
  blk_ext [idx t]

theorem char_blk (t : Fin cfg0.N) (v : Fin 22) (d : Fin 64) :
    iblk m c 1 t (ix2 v d) = m ((c : Thread nD τ).loc main_arg1) (ix2 v d) := by
  blk_ext [iblk, V, idx t]

theorem pos_blk (t : Fin cfg0.N) (l : Fin 10) (d : Fin 64) :
    iblk m c 2 t (ix2 l d) = m ((c : Thread nD τ).loc main_arg2) (ix2 l d) := by
  blk_ext [iblk, V, idx t]

theorem first_blk (t : Fin cfg0.N) (k : Fin 256) (q : Fin 640) :
    iblk m c 3 t (ix2 k q) = m ((c : Thread nD τ).loc main_arg3) (ix2 k q) := by
  blk_ext [iblk, V, idx t]

theorem bias_blk (t : Fin cfg0.N) (k : Fin 256) :
    iblk m c 4 t (ix2 0 k) = m ((c : Thread nD τ).loc main_arg4) (ix1 k) := by
  blk_simp [iblk, idx t]
  entry_read
  pointwise
  blk_ext [idx t]

theorem second_blk (t : Fin cfg0.N) (o : Fin 128) (k : Fin 256) :
    iblk m c 5 t (ix2 o k) = m ((c : Thread nD τ).loc main_arg7) (ix2 o k) := by
  blk_ext [iblk, V, idx t]

theorem bias'_blk (t : Fin cfg0.N) (o : Fin 128) :
    iblk m c 6 t (ix2 0 o) = m ((c : Thread nD τ).loc main_arg8) (ix1 o) := by
  blk_simp [iblk, idx t]
  entry_read
  pointwise
  blk_ext [idx t]

variable (T : Fin 22 → Fin 64 → EReal) (P : Fin 10 → Fin 64 → EReal) (W : Fin 256 → Fin 10 → Fin 64 → EReal)
  (b : Fin 256 → EReal) (W' : Fin 128 → Fin 256 → EReal) (b' : Fin 128 → EReal) (q : Fin 16384 → Fin 10 → Fin 22)

/-- What the kernel's arguments hold. -/
structure Args : Prop where
  codes : ∀ (i : Fin 16384) (l : Fin 10),
    (m ((c : Thread nD τ).loc main_arg0) (ix2 i l) : BitVec 32).toInt = ((q i l).val : ℤ)
  char : ∀ (v : Fin 22) (d : Fin 64), m ((c : Thread nD τ).loc main_arg1) (ix2 v d) = T v d
  pos : ∀ (l : Fin 10) (d : Fin 64), m ((c : Thread nD τ).loc main_arg2) (ix2 l d) = P l d
  first : ∀ (k : Fin 256) (l : Fin 10) (d : Fin 64) (h : l.val * 64 + d.val < 640),
    m ((c : Thread nD τ).loc main_arg3) (ix2 k ⟨l.val * 64 + d.val, h⟩) = W k l d
  bias : ∀ k : Fin 256, m ((c : Thread nD τ).loc main_arg4) (ix1 k) = b k
  second : ∀ (o : Fin 128) (k : Fin 256), m ((c : Thread nD τ).loc main_arg7) (ix2 o k) = W' o k
  bias' : ∀ o : Fin 128, m ((c : Thread nD τ).loc main_arg8) (ix1 o) = b' o

variable {m c T P W b W' b' q}

/-- The weights' blocks hold the arguments at every point. -/
theorem weights (hr : Args m c T P W b W' b' q) (t : Fin cfg0.N) : Points.Weights m c T P W b W' b' t where
  char v d := (char_blk m c t v d).trans (hr.char v d)
  pos l d := (pos_blk m c t l d).trans (hr.pos l d)
  first k l d h := (first_blk m c t k _).trans (hr.first k l d h)
  bias k := (bias_blk m c t k).trans (hr.bias k)
  second o k := (second_blk m c t o k).trans (hr.second o k)
  bias' o := (bias'_blk m c t o).trans (hr.bias' o)

/-- The rows point `t` stores. -/
theorem out_eq (hr : Args m c T P W b W' b' q) (t : Fin cfg0.N) (r : Fin 8192) (h : t.val * 8192 + r.val < 16384)
    (o : Fin 128) : (outsAt0 m c t.val t.isLt).1 (ix2 r o) =
      Extended.fused (fun l => Extended.entry T P W l (q ⟨t.val * 8192 + r.val, h⟩ l)) b W' b' o := by
  have hq : ∀ l : Fin 10, (iblk m c 0 t (ix2 l r) : BitVec 32).toInt = ((q ⟨t.val * 8192 + r.val, h⟩ l).val : ℤ) :=
    fun l => (congrArg BitVec.toInt (codes_blk m c t l r h)).trans (hr.codes _ l)
  have hN := lt_of_lt_of_eq t.isLt (show cfg0.N = 2 from N_0)
  by_cases h0 : t.val % 2 = 0
  · exact Points.out_A t h0 (weights hr t) _ r hq o
  · have hp : t.val - 1 < cfg0.N := Nat.lt_of_le_of_lt (Nat.sub_le _ _) t.isLt
    exact Points.out_B t h0 (Points.scratch_A ⟨t.val - 1, hp⟩ (by show (t.val - 1) % 2 = 0; omega) (weights hr _)) _ r hq o

/-- The array after the run. -/
theorem result_eq (hr : Args m c T P W b W' b' q) (i : Fin 16384) (o : Fin 128) :
    Value.G7 m c (ix2 i o) = Extended.fused (fun l => Extended.entry T P W l (q i l)) b W' b' o := by
  have hi := i.isLt
  have ho := o.isLt
  have hp : Value.pt7Of (ix2 i o) = i.val / 8192 := by
    show 1 * (i.val / 8192 - 0) + 1 * (o.val / 128 - 0) = i.val / 8192
    omega
  have hN : Value.pt7Of (ix2 i o) < cfg0.N := by
    rw [hp, show cfg0.N = 2 from N_0]; omega
  have hl : Value.loc7Of (ix2 i o) = ix2 (⟨i.val % 8192, by omega⟩ : Fin 8192) o := by
    funext a
    refine Fin.ext ?_
    match a with
    | ⟨0, _⟩ => rfl
    | ⟨1, _⟩ => exact Nat.mod_eq_of_lt ho
  have hb : (⟨Value.pt7Of (ix2 i o), hN⟩ : Fin cfg0.N).val * 8192 + (⟨i.val % 8192, by omega⟩ : Fin 8192).val < 16384 := by
    show Value.pt7Of (ix2 i o) * 8192 + i.val % 8192 < 16384
    rw [hp]; omega
  unfold Value.G7
  rw [dif_pos hN, ← Value.outsAt0_sweep m c _ hN, hl]
  refine (out_eq hr ⟨Value.pt7Of (ix2 i o), hN⟩ ⟨i.val % 8192, by omega⟩ hb o).trans ?_
  refine congrArg (fun x => Extended.fused (fun l => Extended.entry T P W l (q x l)) b W' b' o) (Fin.ext ?_)
  show Value.pt7Of (ix2 i o) * 8192 + i.val % 8192 = i.val
  rw [hp]; omega

end Cert.KernelValue
-- ==== Proof.Gather.lean ====
/- The reference's two table lookups at an index: with the row number in range, the lookup reads that row and its in-range
   test passes. -/
module

public import proofs.«01_k».proof.Proof.Finite
public import proofs.«01_k».proof.Proof.Gen.ReferenceIdeal.Run
public import Idealize.ShloMosaic.Lib.Pipeline.ValueKit
public import Idealize.ShloMosaic.Lib.Affine

@[expose] public section

set_option maxRecDepth 16384

noncomputable section

namespace Cert.Gather

open Cert.ReferenceIdeal Cert.ReferenceIdeal.Value Idealize.ShloMosaic Idealize.ShloMosaic.TcCoe Idealize.SL.Sem

/-- The lookup in the character table at `(i, l, d)`: row `v` when the index there is `v`. -/
theorem chars (x : S22x64.Idx → EReal) (idx : IVec S16384x10x1 32) (i : Fin 16384) (l : Fin 10) (d : Fin 64) (v : Fin 22)
    (h : (idx (ix3 i l 0)).toInt = (v.val : ℤ)) :
    Host.gather gather_S22x64_S16384x10x1_S16384x10x64_2_0_n_n_0_2_164 x idx (ix3 i l d) = x (ix2 v d) := by
  unfold Host.gather
  congr 1
  funext a
  refine Fin.ext ?_
  show GatherDims.start _ _ idx a + GatherDims.batchCoord _ _ a + GatherDims.offCoord _ _ a = _
  rw [GatherDims.batchCoord_eq_zero _ _ _ List.not_mem_nil]
  have h01 : a = (0 : Fin 2) ∨ a = (1 : Fin 2) := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl))]
    unfold GatherDims.start
    rw [dif_pos (show (0 : Fin 2) ∈ gather_S22x64_S16384x10x1_S16384x10x64_2_0_n_n_0_2_164.startIndexMap from List.mem_singleton.mpr rfl)]
    have hsi : gather_S22x64_S16384x10x1_S16384x10x64_2_0_n_n_0_2_164.siIdx (ix3 i l d)
        ⟨List.idxOf (0 : Fin 2) [0], List.idxOf_lt_length_iff.2 (List.mem_singleton.mpr rfl)⟩ = ix3 i l 0 := by
      funext b; refine Fin.ext ?_
      match b with
      | ⟨0, _⟩ => rfl
      | ⟨1, _⟩ => rfl
      | ⟨2, _⟩ => rfl
    have hv : min (idx (ix3 i l 0)).toInt.toNat 21 = v.val := by rw [h]; have := v.isLt; simp; omega
    exact (congrArg (fun y => min (idx y).toInt.toNat 21 + 0 + 0) hsi).trans hv
  · unfold GatherDims.start
    rw [dif_neg (show (1 : Fin 2) ∉ gather_S22x64_S16384x10x1_S16384x10x64_2_0_n_n_0_2_164.startIndexMap from show (1 : Fin 2) ∉ ([0] : List (Fin 2)) by decide)]
    unfold GatherDims.offCoord
    rw [dif_pos ((GatherDims.mem_sKept _ _).mpr ⟨show (1 : Fin 2) ∉ ([0] : List (Fin 2)) by decide, List.not_mem_nil⟩)]
    exact (Nat.zero_add _).trans rfl

/-- The lookup in the position table at `(l, d)`: row `v` when the index there is `v`. -/
theorem positions (x : S10x64.Idx → EReal) (idx : IVec S10x1 32) (l : Fin 10) (d : Fin 64) (v : Fin 10)
    (h : (idx (ix2 l 0)).toInt = (v.val : ℤ)) :
    Host.gather gather_S10x64_S10x1_S10x64_1_0_n_n_0_1_164 x idx (ix2 l d) = x (ix2 v d) := by
  unfold Host.gather
  congr 1
  funext a
  refine Fin.ext ?_
  show GatherDims.start _ _ idx a + GatherDims.batchCoord _ _ a + GatherDims.offCoord _ _ a = _
  rw [GatherDims.batchCoord_eq_zero _ _ _ List.not_mem_nil]
  have h01 : a = (0 : Fin 2) ∨ a = (1 : Fin 2) := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl))]
    unfold GatherDims.start
    rw [dif_pos (show (0 : Fin 2) ∈ gather_S10x64_S10x1_S10x64_1_0_n_n_0_1_164.startIndexMap from List.mem_singleton.mpr rfl)]
    have hsi : gather_S10x64_S10x1_S10x64_1_0_n_n_0_1_164.siIdx (ix2 l d)
        ⟨List.idxOf (0 : Fin 2) [0], List.idxOf_lt_length_iff.2 (List.mem_singleton.mpr rfl)⟩ = ix2 l 0 := by
      funext b; refine Fin.ext ?_
      match b with
      | ⟨0, _⟩ => rfl
      | ⟨1, _⟩ => rfl
    have hv : min (idx (ix2 l 0)).toInt.toNat 9 = v.val := by rw [h]; have := v.isLt; simp; omega
    exact (congrArg (fun y => min (idx y).toInt.toNat 9 + 0 + 0) hsi).trans hv
  · unfold GatherDims.start
    rw [dif_neg (show (1 : Fin 2) ∉ gather_S10x64_S10x1_S10x64_1_0_n_n_0_1_164.startIndexMap from show (1 : Fin 2) ∉ ([0] : List (Fin 2)) by decide)]
    unfold GatherDims.offCoord
    rw [dif_pos ((GatherDims.mem_sKept _ _).mpr ⟨show (1 : Fin 2) ∉ ([0] : List (Fin 2)) by decide, List.not_mem_nil⟩)]
    exact (Nat.zero_add _).trans rfl

/-- A conjunction of bits that are all one is one. -/
theorem fold_one {ι : Type} (s : Finset ι) (f : ι → BitVec 1) (h : ∀ x, f x = 1#1) : Finset.fold IntOp.andi (1#1) f s = 1#1 := by
  classical
  induction s using Finset.induction_on with
  | empty => rfl
  | insert a s ha ih => rw [Finset.fold_insert ha, h, ih]; rfl

/-- The test `0 ≤ x ≤ top` passes on a word in that range. -/
theorem test_one (x top : BitVec 32) (h0 : 0 ≤ x.toInt) (h1 : x.toInt ≤ top.toInt) :
    IntOp.andi (IntOp.cmpi .sge x 0#32) (IntOp.cmpi .sle x top) = 1#1 :=
  IntOp.andi_eq_one.2 ⟨IntOp.cmpi_sge.2 h0, IntOp.cmpi_sle.2 h1⟩

/-- Wrapping a negative index does nothing to one that is not negative. -/
theorem wrap (x y : BitVec 32) (h0 : 0 ≤ x.toInt) : Scalar.select (IntOp.cmpi .slt x 0#32) y x = x := by
  have h : IntOp.cmpi .slt x 0#32 = 0#1 := by
    rcases BitVec.eq_zero_or_eq_one (IntOp.cmpi .slt x 0#32) with h | h
    · exact h
    · exact absurd (IntOp.cmpi_slt.1 h) (not_lt.2 h0)
  rw [h]; rfl

variable (V0 : Valuation τ sig (Elt Ideal))

/-- The wrapped codes, when the codes are character numbers, are the codes. -/
theorem codes_eq (q : Fin 16384 → Fin 10 → Fin 22)
    (h : ∀ i l, (V0 (Proc.devRef .tc main_arg0) (ix2 i l) : BitVec 32).toInt = ((q i l).val : ℤ)) (i : Fin 16384) (l : Fin 10) :
    (res_main_call0_v5 V0 (ix3 i l 0) : BitVec 32).toInt = ((q i l).val : ℤ) := by
  have e : res_main_call0_v5 V0 (ix3 i l 0) = (V0 (Proc.devRef .tc main_arg0) (ix2 i l) : BitVec 32) := by
    pointwise [res_main_call0_v5]
    exact wrap _ _ (by rw [h]; positivity)
  rw [e]; exact h i l

/-- The wrapped positions are the positions. -/
theorem positions_eq (l : Fin 10) : (res_main_call1_v5 V0 (ix2 l 0) : BitVec 32).toInt = (l.val : ℤ) := by
  have hl : (BitVec.ofNat 32 l.val).toInt = (l.val : ℤ) := by revert l; decide
  have e : res_main_call1_v5 V0 (ix2 l 0) = BitVec.ofNat 32 l.val := by
    pointwise [res_main_call1_v5, res_main_v1]
    exact wrap _ _ (by rw [hl]; positivity)
  rw [e]; exact hl

end Cert.Gather
-- ==== Proof.RefValue.lean ====
/- The array the reference computes: at row `i` and output `o` the plain encoder of row `i`'s codes, its codes in range
   and its layer norms plain. -/
module

public import proofs.«01_k».proof.Proof.Gather
public import proofs.«01_k».proof.Proof.Extended

@[expose] public section

set_option maxRecDepth 16384

noncomputable section

namespace Cert.RefValue

open Cert.ReferenceIdeal Cert.ReferenceIdeal.Facts₀ Cert.ReferenceIdeal.Value Idealize.ShloMosaic Idealize.ShloMosaic.TcCoe Idealize.SL.Sem Cert.Finite
open scoped BigOperators

/-- What the valuation's arrays hold: codes, tables and weights, the normalisations' gains one and their biases zero. -/
structure Args (V0 : Valuation τ sig (Elt Ideal)) (T : Fin 22 → Fin 64 → EReal)
    (P : Fin 10 → Fin 64 → EReal) (W : Fin 256 → Fin 10 → Fin 64 → EReal) (b : Fin 256 → EReal)
    (W' : Fin 128 → Fin 256 → EReal) (b' : Fin 128 → EReal) (q : Fin 16384 → Fin 10 → Fin 22) : Prop where
  codes : ∀ i l, (V0 (Proc.devRef .tc main_arg0) (ix2 i l) : BitVec 32).toInt = ((q i l).val : ℤ)
  char : ∀ v d, (V0 (Proc.devRef .tc main_arg1) (ix2 v d) : EReal) = T v d
  pos : ∀ l d, (V0 (Proc.devRef .tc main_arg2) (ix2 l d) : EReal) = P l d
  first : ∀ (k : Fin 256) (l : Fin 10) (d : Fin 64) (h : l.val * 64 + d.val < 640),
    (V0 (Proc.devRef .tc main_arg3) (ix2 k ⟨l.val * 64 + d.val, h⟩) : EReal) = W k l d
  bias : ∀ k, (V0 (Proc.devRef .tc main_arg4) (ix1 k) : EReal) = b k
  gain : ∀ k, (V0 (Proc.devRef .tc main_arg5) (ix1 k) : EReal) = ((1 : ℝ) : EReal)
  shift : ∀ k, (V0 (Proc.devRef .tc main_arg6) (ix1 k) : EReal) = ((0 : ℝ) : EReal)
  second : ∀ o k, (V0 (Proc.devRef .tc main_arg7) (ix2 o k) : EReal) = W' o k
  bias' : ∀ o, (V0 (Proc.devRef .tc main_arg8) (ix1 o) : EReal) = b' o
  gain' : ∀ o, (V0 (Proc.devRef .tc main_arg9) (ix1 o) : EReal) = ((1 : ℝ) : EReal)
  shift' : ∀ o, (V0 (Proc.devRef .tc main_arg10) (ix1 o) : EReal) = ((0 : ℝ) : EReal)

variable {V0 : Valuation τ sig (Elt Ideal)} {T : Fin 22 → Fin 64 → EReal}
  {P : Fin 10 → Fin 64 → EReal} {W : Fin 256 → Fin 10 → Fin 64 → EReal} {b : Fin 256 → EReal}
  {W' : Fin 128 → Fin 256 → EReal} {b' : Fin 128 → EReal}
  {q : Fin 16384 → Fin 10 → Fin 22}

/-- A choice on a bit that is one. -/
theorem sel_one {α : Type} {t : BitVec 1} (h : t = 1#1) (x y : α) : Scalar.select t x y = x := by rw [h]; rfl

/-- A code's in-range test passes everywhere. -/
theorem codes_test (hr : Args V0 T P W b W' b' q) (x : S16384x10x1.Idx) :
    IntOp.andi (IntOp.cmpi .sge (res_main_call0_v5 V0 x) 0#32) (IntOp.cmpi .sle (res_main_call0_v5 V0 x) 21#32) = 1#1 := by
  obtain ⟨i, l, rfl⟩ : ∃ (i : Fin 16384) (l : Fin 10), x = ix3 i l 0 :=
    ⟨x 0, x 1, (ValueIdx.eq_ix3 x).trans (congrArg (ix3 (x 0) (x 1)) (Subsingleton.elim (α := Fin 1) _ _))⟩
  have h := Gather.codes_eq V0 q hr.codes i l
  have := (q i l).isLt
  exact Gather.test_one _ _ (by rw [h]; positivity) (by rw [h]; show _ ≤ (21 : ℤ); omega)

/-- A position's in-range test passes everywhere. -/
theorem positions_test (x : S10x1.Idx) :
    IntOp.andi (IntOp.cmpi .sge (res_main_call1_v5 V0 x) 0#32) (IntOp.cmpi .sle (res_main_call1_v5 V0 x) 9#32) = 1#1 := by
  obtain ⟨l, rfl⟩ : ∃ l : Fin 10, x = ix2 l 0 :=
    ⟨x 0, (ValueIdx.eq_ix2 x).trans (congrArg (ix2 (x 0)) (Subsingleton.elim (α := Fin 1) _ _))⟩
  have h := Gather.positions_eq V0 l
  have := l.isLt
  exact Gather.test_one _ _ (by rw [h]; positivity) (by rw [h]; show _ ≤ (9 : ℤ); omega)

/-- The first layer before its normalisation. -/
theorem hidden_eq (hr : Args V0 T P W b W' b' q) (i : Fin 16384) (k : Fin 256) :
    res_main_v11 V0 (ix2 i k) = Extended.hidden (fun l => Extended.entry T P W l (q i l)) b k := by
  pointwise [res_main_v11]
  rw [Fin.sum_univ_tiles 10 64 (by decide)]
  have hd : ∀ (l : Fin 10) (d : Fin 64), (l.val * 64 + d.val) / 64 = l.val := fun l d => by have := d.isLt; omega
  have hm : ∀ (l : Fin 10) (d : Fin 64), (l.val * 64 + d.val) % 64 = d.val := fun l d => by have := d.isLt; omega
  simp only [hd, hm, Fin.eta]
  simp only [Gather.chars _ _ _ _ _ _ (Gather.codes_eq V0 q hr.codes _ _), Gather.positions _ _ _ _ _ (Gather.positions_eq V0 _),
    hr.char, hr.pos, hr.first, hr.bias]
  refine Eq.trans (congrArg₂ (· + ·) (Finset.sum_congr rfl fun l _ => Finset.sum_congr rfl fun d _ =>
    congrArg₂ (· * ·) (congrArg₂ (· + ·) (sel_one (Gather.fold_one _ _ (codes_test hr)) _ _)
      (sel_one (Gather.fold_one _ _ positions_test) _ _)) rfl) rfl) ?_
  rfl

/-- The first layer's mean over a row. -/
theorem mean_eq (hr : Args V0 T P W b W' b' q) (i : Fin 16384) :
    res_main_v15 V0 (ix2 i 0) = Extended.mean (Extended.hidden (fun l => Extended.entry T P W l (q i l)) b) := by
  pointwise [res_main_v15]
  simp only [hidden_eq hr, ofBits_256]
  rw [Ideal.div_coe (by norm_num)]
  simp [Extended.mean]

/-- The first layer less its row's mean. -/
theorem cent_eq (hr : Args V0 T P W b W' b' q) (i : Fin 16384) (k : Fin 256) :
    res_main_v17 V0 (ix2 i k) = Extended.cent (Extended.hidden (fun l => Extended.entry T P W l (q i l)) b) k := by
  pointwise [res_main_v17]
  rw [hidden_eq hr, mean_eq hr]
  rfl

/-- The normalisation's last step: the centred entry over the root of the variance plus epsilon. -/
theorem norm_eq {n : ℕ} (x : Fin n → EReal) (k : Fin n) {v : EReal}
    (hv : v + (Model.eps : EReal) = Extended.vareps (Extended.cent x)) :
    Ideal.div (x k - Extended.mean x) (Ideal.sqrt (v + (Model.eps : EReal))) * ((1 : ℝ) : EReal) + ((0 : ℝ) : EReal) =
      Extended.lnorm x k := by
  rw [hv, EReal.coe_one, EReal.coe_zero, mul_one, add_zero]
  rfl

/-- The first layer normalised. -/
theorem lnorm_eq (hr : Args V0 T P W b W' b' q) (i : Fin 16384) (k : Fin 256) :
    res_main_v35 V0 (ix2 i k) = Extended.lnorm (Extended.hidden (fun l => Extended.entry T P W l (q i l)) b) k := by
  pointwise [res_main_v35]
  simp only [hidden_eq hr, mean_eq hr, cent_eq hr, hr.gain, hr.shift, ofBits_256, ofBits_eps]
  rw [Ideal.div_coe (by norm_num)]
  exact norm_eq _ _ (by simp [Extended.vareps, Extended.mean])

/-- The second layer. -/
theorem second_eq (hr : Args V0 T P W b W' b' q) (i : Fin 16384) (o : Fin 128) :
    res_main_v47 V0 (ix2 i o) =
      Extended.second W' b' (fun k => Extended.gelu (Extended.lnorm (Extended.hidden (fun l => Extended.entry T P W l (q i l)) b) k)) o := by
  pointwise [res_main_v47]
  simp only [lnorm_eq hr, hr.second, hr.bias', ofBits_half, ofBits_halfRoot]
  rfl

/-- The second layer's mean over a row. -/
theorem mean'_eq (hr : Args V0 T P W b W' b' q) (i : Fin 16384) :
    res_main_v51 V0 (ix2 i 0) = Extended.mean
      (Extended.second W' b' (fun k => Extended.gelu (Extended.lnorm (Extended.hidden (fun l => Extended.entry T P W l (q i l)) b) k))) := by
  pointwise [res_main_v51]
  simp only [second_eq hr, ofBits_128]
  rw [Ideal.div_coe (by norm_num)]
  simp [Extended.mean]

/-- The second layer less its row's mean. -/
theorem cent'_eq (hr : Args V0 T P W b W' b' q) (i : Fin 16384) (o : Fin 128) :
    res_main_v53 V0 (ix2 i o) = Extended.cent
      (Extended.second W' b' (fun k => Extended.gelu (Extended.lnorm (Extended.hidden (fun l => Extended.entry T P W l (q i l)) b) k))) o := by
  pointwise [res_main_v53]
  rw [second_eq hr, mean'_eq hr]
  rfl

/-- The reference's result at row `i` and output `o`. -/
theorem result_eq (hr : Args V0 T P W b W' b' q) (i : Fin 16384) (o : Fin 128) :
    addf (mulf (Host.divf (subf (res_main_v47 V0) (broadcastInDim S16384x128 ![0, 1] bcast_S16384x1_S16384x128_0_1 (res_main_v51 V0)))
      (broadcastInDim S16384x128 ![0, 1] bcast_S16384x1_S16384x128_0_1 (Host.sqrt (addf
        (Host.divf (broadcastInDim S16384x1 ![0] bcast_S16384_S16384x1_0
          (Host.reduceAdd (mulf (res_main_v53 V0) (res_main_v53 V0)) (constant S_ .f32 0x00000000#32)
            reducesTo_S16384x128_S16384_d1 h_S_))
          (broadcastInDim S16384x1 ![] bcast_S_S16384x1 (constant S_ .f32 0x43000000#32)))
        (broadcastInDim S16384x1 ![] bcast_S_S16384x1 (constant S_ .f32 0x3727C5AC#32))))))
      (broadcastInDim S16384x128 ![0, 1] bcast_S1x128_S16384x128_0_1 (broadcastInDim S1x128 ![1] bcast_S128_S1x128_1
        (V0 (Proc.devRef .tc main_arg9)))))
      (broadcastInDim S16384x128 ![0, 1] bcast_S1x128_S16384x128_0_1 (broadcastInDim S1x128 ![1] bcast_S128_S1x128_1
        (V0 (Proc.devRef .tc main_arg10)))) (ix2 i o)
      = Extended.spec (fun l => Extended.entry T P W l (q i l)) b W' b' o := by
  pointwise
  simp only [second_eq hr, mean'_eq hr, cent'_eq hr, hr.gain', hr.shift', ofBits_128, ofBits_eps]
  rw [Ideal.div_coe (by norm_num)]
  exact norm_eq _ _ (by simp [Extended.vareps, Extended.mean])

end Cert.RefValue
-- ==== Proof.Pre.lean ====
/- What the precondition says of the arrays at an index: codes in range, the normalisations' gains one and their
   biases zero. -/
module

public import proofs.«01_k».proof.Defs
public import proofs.«01_k».proof.Proof.Finite
public import proofs.«01_k».proof.Proof.Gen.Pre_inputs_in_range
public import Idealize.ShloMosaic.Lib.ReduceAll
public import Idealize.ShloMosaic.Lib.Pipeline.ValueKit

@[expose] public section

set_option maxRecDepth 16384

noncomputable section

namespace Cert.Pre

open Cert.Pre_inputs_in_range Cert.Pre_inputs_in_range.Facts Idealize.ShloMosaic Idealize.ShloMosaic.TcCoe Cert.Finite

/-- `0x3F800000` is one. -/
theorem ofBits_one : Ideal.ofBits .f32 0x3F800000#32 = ((1 : ℝ) : EReal) := by
  simp [Ideal.ofBits, Ideal.ieee, -EReal.coe_mul]; norm_num

/-- `0` is zero. -/
theorem ofBits_zero : Ideal.ofBits .f32 0x00000000#32 = ((0 : ℝ) : EReal) := by
  simp [Ideal.ofBits, Ideal.ieee, -EReal.coe_mul]

/-- An array whose entries all compare equal to a constant holds it everywhere. -/
theorem const_of_all {s : Shape} {axes : List (Fin s.rank)} (x : FVec Ideal s .f32) (v : BitVec 32) (hb : S_.BroadcastsInDim s ![])
    (hr : s.ReducesTo axes S_) (hn : 0 < S_.numel)
    (h : Host.reduce IntOp.andi (cmpf .oeq x (broadcastInDim s ![] hb (constant S_ .f32 v)))
      (constantI S_ 1 1#1) hr hn ix0 = 1#1) (i : s.Idx) : (x i : EReal) = Ideal.ofBits .f32 v := by
  haveI : Subsingleton S_.Idx := ⟨fun a b => (ValueIdx.eq_ix0 a).trans (ValueIdx.eq_ix0 b).symm⟩
  have e := Host.reduce_andi_all _ _ hr hn ix0 h i
  exact (Ideal.cmp_oeq_eq_one _ _).1 e

/-- Words that all test into `0 ≤ x < 22` lie there. -/
theorem range_of_all (x : IVec S16384x10 32) (hb : S_.BroadcastsInDim S16384x10 ![]) {axes : List (Fin S16384x10.rank)}
    (hr : S16384x10.ReducesTo axes S_) (hn : 0 < S_.numel)
    (h : Host.reduce IntOp.andi (andi (cmpi .sge x (broadcastInDim S16384x10 ![] hb (constantI S_ 32 0#32)))
      (cmpi .slt x (broadcastInDim S16384x10 ![] hb (constantI S_ 32 22#32)))) (constantI S_ 1 1#1) hr hn ix0 = 1#1)
    (i : S16384x10.Idx) : 0 ≤ (x i).toInt ∧ (x i).toInt < 22 := by
  haveI : Subsingleton S_.Idx := ⟨fun a b => (ValueIdx.eq_ix0 a).trans (ValueIdx.eq_ix0 b).symm⟩
  have e := Host.reduce_andi_all _ _ hr hn ix0 h i
  have e' : IntOp.andi (IntOp.cmpi .sge (x i) 0#32) (IntOp.cmpi .slt (x i) 22#32) = 1#1 := e
  rw [IntOp.andi_eq_one, IntOp.cmpi_sge, IntOp.cmpi_slt] at e'
  exact e'

variable {a0 : IVec S16384x10 32} {a1 : FVec Ideal S22x64 .f32} {a2 : FVec Ideal S10x64 .f32} {a3 : FVec Ideal S256x640 .f32}
  {a4 a5 a6 : FVec Ideal S256 .f32} {a7 : FVec Ideal S128x256 .f32} {a8 a9 a10 : FVec Ideal S128 .f32}

/-- What the precondition says of eleven arrays. -/
structure Holds (a0 : IVec S16384x10 32) (a1 : FVec Ideal S22x64 .f32) (a2 : FVec Ideal S10x64 .f32) (a3 : FVec Ideal S256x640 .f32)
    (a4 a5 a6 : FVec Ideal S256 .f32) (a7 : FVec Ideal S128x256 .f32) (a8 a9 a10 : FVec Ideal S128 .f32) : Prop where
  codes : ∀ i, 0 ≤ (a0 i).toInt ∧ (a0 i).toInt < 22
  gain : ∀ i, (a5 i : EReal) = ((1 : ℝ) : EReal)
  shift : ∀ i, (a6 i : EReal) = ((0 : ℝ) : EReal)
  gain' : ∀ i, (a9 i : EReal) = ((1 : ℝ) : EReal)
  shift' : ∀ i, (a10 i : EReal) = ((0 : ℝ) : EReal)

/-- The precondition's program all ones gives each of its parts. -/
theorem holds (h : fn (F := Ideal) a0 a1 a2 a3 a4 a5 a6 a7 a8 a9 a10 = fun _ => 1#1) :
    Holds a0 a1 a2 a3 a4 a5 a6 a7 a8 a9 a10 := by
  have h0 := congrFun h ix0
  unfold fn fn_part1 at h0
  simp only [andi, IntOp.andi_eq_one] at h0
  obtain ⟨⟨hc, h5, h6⟩, h9, h10⟩ := h0
  exact ⟨range_of_all _ _ _ _ hc, fun i => (const_of_all _ _ _ _ _ h5 i).trans ofBits_one,
    fun i => (const_of_all _ _ _ _ _ h6 i).trans ofBits_zero,
    fun i => (const_of_all _ _ _ _ _ h9 i).trans ofBits_one, fun i => (const_of_all _ _ _ _ _ h10 i).trans ofBits_zero⟩

end Cert.Pre
-- ==== Proof.Claims.lean ====
/- The claims: both programs' frames, the named constant, and that the kernel's array is the reference's. -/
module

public import proofs.«01_k».proof.Defs
public import proofs.«01_k».proof.Proof.KernelValue
public import proofs.«01_k».proof.Proof.RefValue
public import proofs.«01_k».proof.Proof.Pre
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import Idealize.ShloMosaic.Lib.Quiescent

@[expose] public section

set_option maxRecDepth 16384

noncomputable section

namespace Cert.Claims

open Idealize.ShloMosaic Idealize.SL.Sem

/-- The kernel ends well from every input and keeps its arguments. -/
theorem frame_kernel : Cert.quiescent_Kernel := fun m ρ _ => Cert.Kernel.Gen.frame m ρ

/-- So does its ideal reading. -/
theorem frame_ideal : Cert.quiescent_KernelIdeal := fun m ρ _ => Cert.KernelIdeal.Gen.frame m ρ

/-- So does its ideal reading on the inputs the equality is stated for. -/
theorem frame_ideal_pre : Cert.quiescent_KernelIdeal_pre_inputs_in_range := fun m ρ _ => Cert.KernelIdeal.Gen.frame m ρ

/-- So does the reference. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- So does the reference on the inputs the equality is stated for. -/
theorem frame_reference_pre : Cert.quiescent_ReferenceIdeal_pre_inputs_in_range := fun m ρ _ => frame_reference m ρ trivial

/-- The kernel's word for a tenth is the f32 nearest to it. -/
theorem preserves : Cert.preserves_Kernel_KernelIdeal :=
  IdealRules.named_const.statement Cert.KernelIdeal.κ "tenth" .f32 0x3DCCCCCD#32 ((1 / 10 : ℝ) : EReal) rfl

/-- The character numbers of an array of words in range. -/
def chars (a : IVec Cert.Pre_inputs_in_range.S16384x10 32) (h : ∀ i, 0 ≤ (a i).toInt ∧ (a i).toInt < 22) (i : Fin 16384)
    (l : Fin 10) : Fin 22 :=
  ⟨(a (ix2 i l)).toInt.toNat, by have := h (ix2 i l); omega⟩

/-- A character number is its word. -/
theorem chars_eq (a : IVec Cert.Pre_inputs_in_range.S16384x10 32) (h : ∀ i, 0 ≤ (a i).toInt ∧ (a i).toInt < 22) (i : Fin 16384)
    (l : Fin 10) : (a (ix2 i l)).toInt = ((chars a h i l).val : ℤ) :=
  (Int.toNat_of_nonneg (h (ix2 i l)).1).symm

/-- On the inputs it is stated for the kernel leaves the array the reference computes. -/
theorem algebraic : Cert.algebraic_KernelIdeal_ReferenceIdeal_pre_inputs_in_range := by
  intro m ρ m' ρ' hpre hagree
  refine ⟨_, Cert.KernelIdeal.Value.run (F := Ideal) m ρ, ?_⟩
  refine (θ_run Cert.ReferenceIdeal.defs _ _).mono (fun _ h c => ⟨(h c).1.trans ?_, (h c).2⟩)
    (Cert.ReferenceIdeal.Value.run (F := Ideal) m' ρ')
  have hp := Pre.holds (hpre c)
  obtain ⟨g0, g1, g2, g3, g4, g5, g6, g7, g8, g9, g10⟩ := hagree c
  have hk : KernelValue.Args m c
      (fun v d => m ((c.tc : Thread _ _).loc Cert.KernelIdeal.main_arg1) (ix2 v d))
      (fun l d => m ((c.tc : Thread _ _).loc Cert.KernelIdeal.main_arg2) (ix2 l d))
      (fun k l d => m ((c.tc : Thread _ _).loc Cert.KernelIdeal.main_arg3)
        (ix2 k ⟨l.val * 64 + d.val, by have := l.isLt; have := d.isLt; omega⟩))
      (fun k => m ((c.tc : Thread _ _).loc Cert.KernelIdeal.main_arg4) (ix1 k))
      (fun o k => m ((c.tc : Thread _ _).loc Cert.KernelIdeal.main_arg7) (ix2 o k))
      (fun o => m ((c.tc : Thread _ _).loc Cert.KernelIdeal.main_arg8) (ix1 o))
      (chars _ hp.codes) :=
    ⟨fun i l => chars_eq _ hp.codes i l, fun _ _ => rfl, fun _ _ => rfl, fun _ _ _ _ => rfl, fun _ => rfl, fun _ _ => rfl,
      fun _ => rfl⟩
  have hR := RefValue.Args.mk (V0 := StableHlo.launchContents m' c)
    (fun i l => (congrArg BitVec.toInt (congrFun g0 (ix2 i l))).trans (hk.codes i l))
    (fun v d => (congrFun g1 (ix2 v d)).trans (hk.char v d))
    (fun l d => (congrFun g2 (ix2 l d)).trans (hk.pos l d))
    (fun k l d h => (congrFun g3 (ix2 k ⟨l.val * 64 + d.val, h⟩)).trans (hk.first k l d h))
    (fun k => (congrFun g4 (ix1 k)).trans (hk.bias k))
    (fun k => (congrFun g5 (ix1 k)).trans (hp.gain _))
    (fun k => (congrFun g6 (ix1 k)).trans (hp.shift _))
    (fun o k => (congrFun g7 (ix2 o k)).trans (hk.second o k))
    (fun o => (congrFun g8 (ix1 o)).trans (hk.bias' o))
    (fun o => (congrFun g9 (ix1 o)).trans (hp.gain' _))
    (fun o => (congrFun g10 (ix1 o)).trans (hp.shift' _))
  funext j
  obtain ⟨i, o, rfl⟩ : ∃ (i : Fin 16384) (o : Fin 128), j = ix2 i o := ⟨j 0, j 1, ValueIdx.eq_ix2 j⟩
  refine (RefValue.result_eq hR i o).trans (Eq.trans ?_ (KernelValue.result_eq hk i o).symm)
  rw [Extended.fused_eq]

end Cert.Claims
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Pre_inputs_in_range
public import Idealize.ShloMosaic.Adequacy
public import Idealize.ShloMosaic.Init
public import proofs.«01_k».proof.Proof.Claims

@[expose] public section

noncomputable section

namespace Cert.Proof

open Idealize.ShloMosaic Idealize.SL.Sem Cert.Kernel

/-- Every claim of the certificate. -/
theorem claim : Cert.Claim := ⟨Cert.Kernel.Gen.facts, Cert.KernelIdeal.Gen.facts, Cert.ReferenceIdeal.Gen.facts, Cert.Pre_inputs_in_range.Gen.facts,
  Cert.Claims.frame_kernel, Cert.Claims.frame_ideal, Cert.Claims.frame_ideal_pre, Cert.Claims.frame_reference,
  Cert.Claims.frame_reference_pre, Cert.Claims.preserves, Cert.Claims.algebraic⟩

end Cert.Proof

end
